-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_grad_in_range [hPre_grad_in_range : Cert.Pre_grad_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_grad_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_grad_in_range [hPre_grad_in_range : Cert.Pre_grad_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_grad_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_grad_in_range [hKernelIdeal : Cert.KernelIdeal.Facts] [hPre_grad_in_range : Cert.Pre_grad_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_grad_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_grad_in_range [hReferenceIdeal : Cert.ReferenceIdeal.Facts] [hPre_grad_in_range : Cert.Pre_grad_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_grad_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "two_k_c" .f32 0x3D922279#32 ((80338380498831 / 1125899906842624 : ℝ) : EReal)
  ∧ IdealRules.named_const.Statement Cert.KernelIdeal.κ "two_k" .f32 0x3FCC422A#32 ((6693141 / 4194304 : ℝ) : EReal)
  ∧ IdealRules.named_const.Statement Cert.KernelIdeal.κ "six_k_c" .f32 0x3E5B33B6#32 ((241015141496493 / 1125899906842624 : ℝ) : EReal)

def algebraic_KernelIdeal_ReferenceIdeal_pre_grad_in_range [hKernelIdeal : Cert.KernelIdeal.Facts] [hReferenceIdeal : Cert.ReferenceIdeal.Facts] [hPre_grad_in_range : Cert.Pre_grad_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_grad_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v100_0) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_v100_1) = v3 c
          ∧ r.2.mem ((c.tc : Thread Cert.ReferenceIdeal.nD Cert.ReferenceIdeal.τ).loc Cert.ReferenceIdeal.main_v99) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_grad_in_range : Cert.Pre_grad_in_range.Facts),
    quiescent_Kernel (hKernel := hKernel)
    ∧ quiescent_KernelIdeal (hKernelIdeal := hKernelIdeal)
    ∧ quiescent_KernelIdeal_pre_grad_in_range (hKernelIdeal := hKernelIdeal) (hPre_grad_in_range := hPre_grad_in_range)
    ∧ quiescent_ReferenceIdeal (hReferenceIdeal := hReferenceIdeal)
    ∧ quiescent_ReferenceIdeal_pre_grad_in_range (hReferenceIdeal := hReferenceIdeal) (hPre_grad_in_range := hPre_grad_in_range)
    ∧ preserves_Kernel_KernelIdeal
    ∧ algebraic_KernelIdeal_ReferenceIdeal_pre_grad_in_range (hKernelIdeal := hKernelIdeal) (hReferenceIdeal := hReferenceIdeal) (hPre_grad_in_range := hPre_grad_in_range)
-- ==== Pre_grad_in_range.lean ====
abbrev S10240x8192 : Shape := ⟨2, ![10240, 8192]⟩
abbrev S_ : Shape := ⟨0, ![]⟩

class Facts : Prop where
  bitsLt_bf16_f32 : FTy.bits .bf16 < FTy.bits .f32
  bcast_S_S10240x8192 : S_.BroadcastsInDim S10240x8192 (![] : Fin 0 → Fin S10240x8192.rank)
  reducesTo_S10240x8192_S_d0_1 : S10240x8192.ReducesTo [0, 1] S_
  h_S_ : 0 < S_.numel

variable [Facts]

def fn {F : FTy → Type} [FloatOps F] (main_arg0 : FVec F S10240x8192 .bf16) (main_arg1 : FVec F S10240x8192 .bf16) : IVec S_ 1 :=
  let main_v0 : FVec F S10240x8192 .f32 := (extf .f32 · bitsLt_bf16_f32) main_arg1
  let main_v1 : FVec F S10240x8192 .f32 := Host.absf main_v0
  let main_cst : FVec F S_ .f32 := constant S_ .f32 0x7F7F0000#32
  let main_v2 : FVec F S10240x8192 .f32 := broadcastInDim S10240x8192 ![] bcast_S_S10240x8192 main_cst
  let main_v3 : IVec S10240x8192 1 := cmpf .ole main_v1 main_v2
  let main_cst_0 : FVec F S_ .f32 := constant S_ .f32 0x7F800000#32
  let main_v4 : FVec F S10240x8192 .f32 := broadcastInDim S10240x8192 ![] bcast_S_S10240x8192 main_cst_0
  let main_v5 : IVec S10240x8192 1 := cmpf .oeq main_v1 main_v4
  let main_v6 : IVec S10240x8192 1 := ori main_v3 main_v5
  let main_c : IVec S_ 1 := constantI S_ 1 1#1
  let main_v7 : IVec S_ 1 := (fun x v => Host.reduce IntOp.andi x v reducesTo_S10240x8192_S_d0_1 h_S_) main_v6 main_c
  main_v7
-- ==== Kernel.lean ====
abbrev S10240x8192 : Shape := ⟨2, ![10240, 8192]⟩
abbrev S1x8192 : Shape := ⟨2, ![1, 8192]⟩
abbrev S10240x64 : Shape := ⟨2, ![10240, 64]⟩
abbrev S8192x10240 : Shape := ⟨2, ![8192, 10240]⟩
abbrev S8192x80 : Shape := ⟨2, ![8192, 80]⟩
abbrev S128x8192 : Shape := ⟨2, ![128, 8192]⟩
abbrev S128x64 : Shape := ⟨2, ![128, 64]⟩
abbrev S8192x128 : Shape := ⟨2, ![8192, 128]⟩
abbrev S8x8192 : Shape := ⟨2, ![8, 8192]⟩
abbrev S80x8192 : Shape := ⟨2, ![80, 8192]⟩
abbrev S128x128 : Shape := ⟨2, ![128, 128]⟩
abbrev S8x128 : Shape := ⟨2, ![8, 128]⟩
abbrev S16x8x128 : Shape := ⟨3, ![16, 8, 128]⟩
abbrev S128 : Shape := ⟨1, ![128]⟩
abbrev S128x1 : Shape := ⟨2, ![128, 1]⟩
abbrev S1x128 : Shape := ⟨2, ![1, 128]⟩
abbrev S8192 : Shape := ⟨1, ![8192]⟩
abbrev S80x128 : Shape := ⟨2, ![80, 128]⟩
abbrev S128x80 : Shape := ⟨2, ![128, 80]⟩

abbrev nBuf : Space → Nat
  | .hbm => 7
  | .vmem => 14
  | .smem => 0
  | _ => 0

abbrev bufTy : (tb : Table) → Fin (tcTables nBuf tb) → BufTy
  | .hbm, ⟨0, _⟩ => ⟨S10240x8192, .bf16⟩
  | .hbm, ⟨1, _⟩ => ⟨S10240x8192, .bf16⟩
  | .hbm, ⟨2, _⟩ => ⟨S1x8192, .f32⟩
  | .hbm, ⟨3, _⟩ => ⟨S10240x8192, .fp8e5m2⟩
  | .hbm, ⟨4, _⟩ => ⟨S10240x64, .f32⟩
  | .hbm, ⟨5, _⟩ => ⟨S8192x10240, .fp8e5m2⟩
  | .hbm, ⟨6, _⟩ => ⟨S8192x80, .f32⟩
  | .local _ .vmem, ⟨0, _⟩ => ⟨S128x8192, .bf16⟩
  | .local _ .vmem, ⟨1, _⟩ => ⟨S128x8192, .bf16⟩
  | .local _ .vmem, ⟨2, _⟩ => ⟨S128x8192, .bf16⟩
  | .local _ .vmem, ⟨3, _⟩ => ⟨S128x8192, .bf16⟩
  | .local _ .vmem, ⟨4, _⟩ => ⟨S1x8192, .f32⟩
  | .local _ .vmem, ⟨5, _⟩ => ⟨S128x8192, .fp8e5m2⟩
  | .local _ .vmem, ⟨6, _⟩ => ⟨S128x8192, .fp8e5m2⟩
  | .local _ .vmem, ⟨7, _⟩ => ⟨S128x64, .f32⟩
  | .local _ .vmem, ⟨8, _⟩ => ⟨S128x64, .f32⟩
  | .local _ .vmem, ⟨9, _⟩ => ⟨S8192x128, .fp8e5m2⟩
  | .local _ .vmem, ⟨10, _⟩ => ⟨S8192x128, .fp8e5m2⟩
  | .local _ .vmem, ⟨11, _⟩ => ⟨S8192x80, .f32⟩
  | .local _ .vmem, ⟨12, _⟩ => ⟨S8x8192, .f32⟩
  | .local _ .vmem, ⟨13, _⟩ => ⟨S80x8192, .f32⟩
  | _, _ => ⟨S10240x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![80], ![false]⟩

@[reducible] def k0_t1_loop : Scf.Loop 32 :=
  let c0_i32_1 : BitVec 32 := 0#32
  let c64_i32 : BitVec 32 := 64#32
  let v4 : BitVec 32 := Scalar.addi c0_i32_1 c64_i32
  let c1_i32 : BitVec 32 := 1#32
  ⟨c0_i32_1, v4, c1_i32⟩
def k0_mult1 (k0_t1 : Fin k0_t1_loop.trips) : BitVec 32 :=
  let c0_i32_5 : BitVec 32 := 0#32
  let c0_i32_1 : BitVec 32 := 0#32
  let c1_i32 : BitVec 32 := 1#32
  let arg10 : BitVec 32 := Scf.iv c0_i32_1 c1_i32 k0_t1
  let c1_i32_4 : BitVec 32 := 1#32
  let v8 : BitVec 32 := Scalar.muli arg10 c1_i32_4
  let v9 : BitVec 32 := Scalar.addi c0_i32_5 v8
  let c128_i32 : BitVec 32 := 128#32
  let v10 : BitVec 32 := Scalar.muli v9 c128_i32
  v10
def k0_off1 (k0_t1 : Fin k0_t1_loop.trips) : Fin 2 → Nat :=
  let c0 : Index := 0#32
  let c0_i32_5 : BitVec 32 := 0#32
  let c0_i32_1 : BitVec 32 := 0#32
  let c1_i32 : BitVec 32 := 1#32
  let arg10 : BitVec 32 := Scf.iv c0_i32_1 c1_i32 k0_t1
  let c1_i32_4 : BitVec 32 := 1#32
  let v8 : BitVec 32 := Scalar.muli arg10 c1_i32_4
  let v9 : BitVec 32 := Scalar.addi c0_i32_5 v8
  let c128_i32 : BitVec 32 := 128#32
  let v10 : BitVec 32 := Scalar.muli v9 c128_i32
  let v11 : BitVec 32 := v10
  let v12 : Index := Scalar.indexCast v11
  ![0, v12.toNat]
def k0_off2 (k0_t1 : Fin k0_t1_loop.trips) : Fin 2 → Nat :=
  let c0_12 : Index := 0#32
  let c0_i32_5 : BitVec 32 := 0#32
  let c0_i32_1 : BitVec 32 := 0#32
  let c1_i32 : BitVec 32 := 1#32
  let arg10 : BitVec 32 := Scf.iv c0_i32_1 c1_i32 k0_t1
  let c1_i32_4 : BitVec 32 := 1#32
  let v8 : BitVec 32 := Scalar.muli arg10 c1_i32_4
  let v9 : BitVec 32 := Scalar.addi c0_i32_5 v8
  let c128_i32 : BitVec 32 := 128#32
  let v10 : BitVec 32 := Scalar.muli v9 c128_i32
  let v11 : BitVec 32 := v10
  let v38 : Index := Scalar.indexCast v11
  ![0, v38.toNat]
def k0_off3 (k0_t1 : Fin k0_t1_loop.trips) : Fin 2 → Nat :=
  let c0_i32_5 : BitVec 32 := 0#32
  let c0_i32_1 : BitVec 32 := 0#32
  let c1_i32 : BitVec 32 := 1#32
  let arg10 : BitVec 32 := Scf.iv c0_i32_1 c1_i32 k0_t1
  let c1_i32_4 : BitVec 32 := 1#32
  let v8 : BitVec 32 := Scalar.muli arg10 c1_i32_4
  let v9 : BitVec 32 := Scalar.addi c0_i32_5 v8
  let c128_i32 : BitVec 32 := 128#32
  let v10 : BitVec 32 := Scalar.muli v9 c128_i32
  let v11 : BitVec 32 := v10
  let v194 : Index := Scalar.indexCast v11
  let c0_46 : Index := 0#32
  ![v194.toNat, 0]
def k0_mult2 (i : grid0.Coords) : BitVec 32 :=
  let arg0 : BitVec 32 := BitVec.ofNat 32 (i 0).val
  let c0_i32_47 : BitVec 32 := 0#32
  let v197 : BitVec 1 := Scalar.cmpi .sgt arg0 c0_i32_47
  let v198 : BitVec 32 := Scalar.extui v197
  let c0_i32_48 : BitVec 32 := 0#32
  let v199 : BitVec 1 := Scalar.cmpi .slt arg0 c0_i32_48
  let v200 : BitVec 32 := Scalar.extui v199
  let v201 : BitVec 32 := Scalar.subi v198 v200
  let c8_i32 : BitVec 32 := 8#32
  let c0_i32_49 : BitVec 32 := 0#32
  let v202 : BitVec 1 := Scalar.cmpi .sgt c8_i32 c0_i32_49
  let v203 : BitVec 32 := Scalar.extui v202
  let c0_i32_50 : BitVec 32 := 0#32
  let v204 : BitVec 1 := Scalar.cmpi .slt c8_i32 c0_i32_50
  let v205 : BitVec 32 := Scalar.extui v204
  let v206 : BitVec 32 := Scalar.subi v203 v205
  let v207 : BitVec 1 := Scalar.cmpi .ne v201 v206
  let v208 : BitVec 32 := Scalar.remsi arg0 c8_i32
  let c0_i32_51 : BitVec 32 := 0#32
  let v209 : BitVec 1 := Scalar.cmpi .ne v208 c0_i32_51
  let v210 : BitVec 1 := Scalar.andi v207 v209
  let v196 : BitVec 32 := Scalar.divsi arg0 c8_i32
  let c1_i32_52 : BitVec 32 := 1#32
  let v211 : BitVec 32 := Scalar.subi v196 c1_i32_52
  let v212 : BitVec 32 := Scalar.select v210 v211 v196
  let c8_i32_53 : BitVec 32 := 8#32
  let v213 : BitVec 32 := Scalar.muli v212 c8_i32_53
  v213
def k0_off4 (i : grid0.Coords) (k0_t1 : Fin k0_t1_loop.trips) : Fin 2 → Nat :=
  let arg0 : BitVec 32 := BitVec.ofNat 32 (i 0).val
  let c0_i32_47 : BitVec 32 := 0#32
  let v197 : BitVec 1 := Scalar.cmpi .sgt arg0 c0_i32_47
  let v198 : BitVec 32 := Scalar.extui v197
  let c0_i32_48 : BitVec 32 := 0#32
  let v199 : BitVec 1 := Scalar.cmpi .slt arg0 c0_i32_48
  let v200 : BitVec 32 := Scalar.extui v199
  let v201 : BitVec 32 := Scalar.subi v198 v200
  let c8_i32 : BitVec 32 := 8#32
  let c0_i32_49 : BitVec 32 := 0#32
  let v202 : BitVec 1 := Scalar.cmpi .sgt c8_i32 c0_i32_49
  let v203 : BitVec 32 := Scalar.extui v202
  let c0_i32_50 : BitVec 32 := 0#32
  let v204 : BitVec 1 := Scalar.cmpi .slt c8_i32 c0_i32_50
  let v205 : BitVec 32 := Scalar.extui v204
  let v206 : BitVec 32 := Scalar.subi v203 v205
  let v207 : BitVec 1 := Scalar.cmpi .ne v201 v206
  let v208 : BitVec 32 := Scalar.remsi arg0 c8_i32
  let c0_i32_51 : BitVec 32 := 0#32
  let v209 : BitVec 1 := Scalar.cmpi .ne v208 c0_i32_51
  let v210 : BitVec 1 := Scalar.andi v207 v209
  let v196 : BitVec 32 := Scalar.divsi arg0 c8_i32
  let c1_i32_52 : BitVec 32 := 1#32
  let v211 : BitVec 32 := Scalar.subi v196 c1_i32_52
  let v212 : BitVec 32 := Scalar.select v210 v211 v196
  let c8_i32_53 : BitVec 32 := 8#32
  let v213 : BitVec 32 := Scalar.muli v212 c8_i32_53
  let v214 : BitVec 32 := v213
  let v230 : Index := Scalar.indexCast v214
  let c0_i32_5 : BitVec 32 := 0#32
  let c0_i32_1 : BitVec 32 := 0#32
  let c1_i32 : BitVec 32 := 1#32
  let arg10 : BitVec 32 := Scf.iv c0_i32_1 c1_i32 k0_t1
  let c1_i32_4 : BitVec 32 := 1#32
  let v8 : BitVec 32 := Scalar.muli arg10 c1_i32_4
  let v9 : BitVec 32 := Scalar.addi c0_i32_5 v8
  let c128_i32 : BitVec 32 := 128#32
  let v10 : BitVec 32 := Scalar.muli v9 c128_i32
  let v11 : BitVec 32 := v10
  let v231 : Index := Scalar.indexCast v11
  ![v230.toNat, v231.toNat]
def k0_cond2 (i : grid0.Coords) : BitVec 1 :=
  let arg0 : BitVec 32 := BitVec.ofNat 32 (i 0).val
  let c79_i32 : BitVec 32 := 79#32
  let v5 : BitVec 1 := Scalar.cmpi .eq arg0 c79_i32
  let v6 : BitVec 32 := Scalar.extui v5
  let c0_i32_3 : BitVec 32 := 0#32
  let v7 : BitVec 1 := Scalar.cmpi .ne v6 c0_i32_3
  v7

@[reducible] def k0_t2_loop : Scf.Loop 32 :=
  let c0_i32_7 : BitVec 32 := 0#32
  let c64_i32_8 : BitVec 32 := 64#32
  let v12 : BitVec 32 := Scalar.addi c0_i32_7 c64_i32_8
  let c1_i32_9 : BitVec 32 := 1#32
  ⟨c0_i32_7, v12, c1_i32_9⟩
def k0_mult3 (k0_t2 : Fin k0_t2_loop.trips) : BitVec 32 :=
  let c0_i32_12 : BitVec 32 := 0#32
  let c0_i32_7 : BitVec 32 := 0#32
  let c1_i32_9 : BitVec 32 := 1#32
  let arg10 : BitVec 32 := Scf.iv c0_i32_7 c1_i32_9 k0_t2
  let c1_i32_11 : BitVec 32 := 1#32
  let v13 : BitVec 32 := Scalar.muli arg10 c1_i32_11
  let v14 : BitVec 32 := Scalar.addi c0_i32_12 v13
  let c128_i32 : BitVec 32 := 128#32
  let v15 : BitVec 32 := Scalar.muli v14 c128_i32
  v15
def k0_off5 (k0_t2 : Fin k0_t2_loop.trips) : Fin 2 → Nat :=
  let c0_13 : Index := 0#32
  let c0_i32_12 : BitVec 32 := 0#32
  let c0_i32_7 : BitVec 32 := 0#32
  let c1_i32_9 : BitVec 32 := 1#32
  let arg10 : BitVec 32 := Scf.iv c0_i32_7 c1_i32_9 k0_t2
  let c1_i32_11 : BitVec 32 := 1#32
  let v13 : BitVec 32 := Scalar.muli arg10 c1_i32_11
  let v14 : BitVec 32 := Scalar.addi c0_i32_12 v13
  let c128_i32 : BitVec 32 := 128#32
  let v15 : BitVec 32 := Scalar.muli v14 c128_i32
  let v16 : BitVec 32 := v15
  let v17 : Index := Scalar.indexCast v16
  ![0, v17.toNat]
def k0_off6 (k0_t2 : Fin k0_t2_loop.trips) : Fin 2 → Nat :=
  let c0_i32_12 : BitVec 32 := 0#32
  let c0_i32_7 : BitVec 32 := 0#32
  let c1_i32_9 : BitVec 32 := 1#32
  let arg10 : BitVec 32 := Scf.iv c0_i32_7 c1_i32_9 k0_t2
  let c1_i32_11 : BitVec 32 := 1#32
  let v13 : BitVec 32 := Scalar.muli arg10 c1_i32_11
  let v14 : BitVec 32 := Scalar.addi c0_i32_12 v13
  let c128_i32 : BitVec 32 := 128#32
  let v15 : BitVec 32 := Scalar.muli v14 c128_i32
  let v16 : BitVec 32 := v15
  let v20 : Index := Scalar.indexCast v16
  let c0_14 : Index := 0#32
  ![v20.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x8192 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8192x128 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8192x80 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "six_k_c" => some ((241015141496493 / 1125899906842624 : ℝ) : EReal)
  | "two_k" => some ((6693141 / 4194304 : ℝ) : EReal)
  | "two_k_c" => some ((80338380498831 / 1125899906842624 : ℝ) : EReal)
  | _ => none
-- ==== ReferenceIdeal.lean ====
abbrev S10240x8192 : Shape := ⟨2, ![10240, 8192]⟩
abbrev S_ : Shape := ⟨0, ![]⟩
abbrev S80x128x8192 : Shape := ⟨3, ![80, 128, 8192]⟩
abbrev S80x8192 : Shape := ⟨2, ![80, 8192]⟩
abbrev S8192 : Shape := ⟨1, ![8192]⟩
abbrev S1x8192 : Shape := ⟨2, ![1, 8192]⟩
abbrev S10240x64x128 : Shape := ⟨3, ![10240, 64, 128]⟩
abbrev S10240x64 : Shape := ⟨2, ![10240, 64]⟩
abbrev S10240x64x1 : Shape := ⟨3, ![10240, 64, 1]⟩
abbrev S80x1x8192 : Shape := ⟨3, ![80, 1, 8192]⟩
abbrev S8192x10240 : Shape := ⟨2, ![8192, 10240]⟩
abbrev S8192x80 : Shape := ⟨2, ![8192, 80]⟩

abbrev nBuf : Space → Nat
  | .hbm => 152
  | .vmem => 4
  | .smem => 0
  | _ => 0

abbrev hbmTy0_0 (i : Nat) : BufTy := match i % 128 with
  | 0 => ⟨S10240x8192, .bf16⟩
  | 1 => ⟨S10240x8192, .bf16⟩
  | 2 => ⟨S10240x8192, .f32⟩
  | 3 => ⟨S10240x8192, .f32⟩
  | 4 => ⟨S10240x8192, .f32⟩
  | 5 => ⟨S_, .f32⟩
  | 6 => ⟨S10240x8192, .f32⟩
  | 7 => ⟨S10240x8192, .f32⟩
  | 8 => ⟨S10240x8192, .f32⟩
  | 9 => ⟨S10240x8192, .f32⟩
  | 10 => ⟨S_, .f32⟩
  | 11 => ⟨S10240x8192, .f32⟩
  | 12 => ⟨S10240x8192, .f32⟩
  | 13 => ⟨S10240x8192, .f32⟩
  | 14 => ⟨S_, .f32⟩
  | 15 => ⟨S10240x8192, .f32⟩
  | 16 => ⟨S10240x8192, .f32⟩
  | 17 => ⟨S_, .f32⟩
  | 18 => ⟨S10240x8192, .f32⟩
  | 19 => ⟨S10240x8192, .f32⟩
  | 20 => ⟨S_, .f32⟩
  | 21 => ⟨S10240x8192, .f32⟩
  | 22 => ⟨S10240x8192, .f32⟩
  | 23 => ⟨S10240x8192, .f32⟩
  | 24 => ⟨S_, .f32⟩
  | 25 => ⟨S10240x8192, .f32⟩
  | 26 => ⟨S10240x8192, .f32⟩
  | 27 => ⟨S10240x8192, .f32⟩
  | 28 => ⟨S_, .f32⟩
  | 29 => ⟨S10240x8192, .f32⟩
  | 30 => ⟨S10240x8192, .f32⟩
  | 31 => ⟨S_, .f32⟩
  | 32 => ⟨S10240x8192, .f32⟩
  | 33 => ⟨S10240x8192, .f32⟩
  | 34 => ⟨S_, .f32⟩
  | 35 => ⟨S10240x8192, .f32⟩
  | 36 => ⟨S10240x8192, .f32⟩
  | 37 => ⟨S_, .f32⟩
  | 38 => ⟨S10240x8192, .f32⟩
  | 39 => ⟨S10240x8192, .f32⟩
  | 40 => ⟨S10240x8192, .f32⟩
  | 41 => ⟨S10240x8192, .f32⟩
  | 42 => ⟨S10240x8192, .f32⟩
  | 43 => ⟨S80x128x8192, .f32⟩
  | 44 => ⟨S_, .f32⟩
  | 45 => ⟨S80x8192, .f32⟩
  | 46 => ⟨S_, .f32⟩
  | 47 => ⟨S8192, .f32⟩
  | 48 => ⟨S1x8192, .f32⟩
  | 49 => ⟨S10240x64x128, .f32⟩
  | 50 => ⟨S10240x64x128, .f32⟩
  | 51 => ⟨S_, .f32⟩
  | 52 => ⟨S10240x64, .f32⟩
  | 53 => ⟨S_, .f32⟩
  | 54 => ⟨S10240x64, .f32⟩
  | 55 => ⟨S10240x64, .f32⟩
  | 56 => ⟨S_, .f32⟩
  | 57 => ⟨S10240x64, .f32⟩
  | 58 => ⟨S10240x64, .i1⟩
  | 59 => ⟨S_, .f32⟩
  | 60 => ⟨S10240x64, .f32⟩
  | 61 => ⟨S10240x64, .i1⟩
  | 62 => ⟨S10240x64, .i1⟩
  | 63 => ⟨S10240x64, .f32⟩
  | 64 => ⟨S_, .f32⟩
  | 65 => ⟨S_, .f32⟩
  | 66 => ⟨S10240x64, .f32⟩
  | 67 => ⟨S10240x64, .f32⟩
  | 68 => ⟨S10240x64, .f32⟩
  | 69 => ⟨S_, .f32⟩
  | 70 => ⟨S10240x64, .f32⟩
  | 71 => ⟨S10240x64, .f32⟩
  | 72 => ⟨S_, .f32⟩
  | 73 => ⟨S_, .f32⟩
  | 74 => ⟨S10240x64, .f32⟩
  | 75 => ⟨S10240x64, .f32⟩
  | 76 => ⟨S_, .f32⟩
  | 77 => ⟨S_, .f32⟩
  | 78 => ⟨S10240x64, .f32⟩
  | 79 => ⟨S10240x64, .f32⟩
  | 80 => ⟨S10240x64, .f32⟩
  | 81 => ⟨S10240x64, .f32⟩
  | 82 => ⟨S_, .f32⟩
  | 83 => ⟨S_, .f32⟩
  | 84 => ⟨S10240x64, .f32⟩
  | 85 => ⟨S10240x64, .f32⟩
  | 86 => ⟨S10240x64, .f32⟩
  | 87 => ⟨S10240x64x1, .f32⟩
  | 88 => ⟨S10240x64x128, .f32⟩
  | 89 => ⟨S10240x64x128, .f32⟩
  | 90 => ⟨S_, .f32⟩
  | 91 => ⟨S_, .f32⟩
  | 92 => ⟨S_, .f32⟩
  | 93 => ⟨S10240x64x128, .f32⟩
  | 94 => ⟨S10240x64x128, .f32⟩
  | 95 => ⟨S_, .f32⟩
  | 96 => ⟨S10240x64x128, .f32⟩
  | 97 => ⟨S10240x64x128, .f32⟩
  | 98 => ⟨S10240x8192, .f32⟩
  | 99 => ⟨S80x128x8192, .f32⟩
  | 100 => ⟨S_, .f32⟩
  | 101 => ⟨S80x8192, .f32⟩
  | 102 => ⟨S_, .f32⟩
  | 103 => ⟨S80x8192, .f32⟩
  | 104 => ⟨S80x8192, .f32⟩
  | 105 => ⟨S_, .f32⟩
  | 106 => ⟨S80x8192, .f32⟩
  | 107 => ⟨S80x8192, .i1⟩
  | 108 => ⟨S_, .f32⟩
  | 109 => ⟨S80x8192, .f32⟩
  | 110 => ⟨S80x8192, .i1⟩
  | 111 => ⟨S80x8192, .i1⟩
  | 112 => ⟨S80x8192, .f32⟩
  | 113 => ⟨S_, .f32⟩
  | 114 => ⟨S_, .f32⟩
  | 115 => ⟨S80x8192, .f32⟩
  | 116 => ⟨S80x8192, .f32⟩
  | 117 => ⟨S80x8192, .f32⟩
  | 118 => ⟨S_, .f32⟩
  | 119 => ⟨S80x8192, .f32⟩
  | 120 => ⟨S80x8192, .f32⟩
  | 121 => ⟨S_, .f32⟩
  | 122 => ⟨S_, .f32⟩
  | 123 => ⟨S80x8192, .f32⟩
  | 124 => ⟨S80x8192, .f32⟩
  | 125 => ⟨S_, .f32⟩
  | 126 => ⟨S_, .f32⟩
  | 127 => ⟨S80x8192, .f32⟩
  | _ => ⟨S10240x8192, .bf16⟩

abbrev hbmTy0_1 (i : Nat) : BufTy := match i % 128 with
  | 0 => ⟨S80x8192, .f32⟩
  | 1 => ⟨S80x8192, .f32⟩
  | 2 => ⟨S80x8192, .f32⟩
  | 3 => ⟨S_, .f32⟩
  | 4 => ⟨S_, .f32⟩
  | 5 => ⟨S80x8192, .f32⟩
  | 6 => ⟨S80x8192, .f32⟩
  | 7 => ⟨S80x8192, .f32⟩
  | 8 => ⟨S80x1x8192, .f32⟩
  | 9 => ⟨S80x128x8192, .f32⟩
  | 10 => ⟨S80x128x8192, .f32⟩
  | 11 => ⟨S_, .f32⟩
  | 12 => ⟨S_, .f32⟩
  | 13 => ⟨S_, .f32⟩
  | 14 => ⟨S80x128x8192, .f32⟩
  | 15 => ⟨S80x128x8192, .f32⟩
  | 16 => ⟨S_, .f32⟩
  | 17 => ⟨S80x128x8192, .f32⟩
  | 18 => ⟨S80x128x8192, .f32⟩
  | 19 => ⟨S10240x8192, .f32⟩
  | 20 => ⟨S8192x10240, .f32⟩
  | 21 => ⟨S8192x80, .f32⟩
  | 22 => ⟨S10240x8192, .fp8e5m2⟩
  | 23 => ⟨S8192x10240, .fp8e5m2⟩
  | _ => ⟨S10240x8192, .bf16⟩

abbrev hbmTy (i : Nat) : BufTy := match i / 128 with
  | 0 => hbmTy0_0 i
  | 1 => hbmTy0_1 i
  | _ => ⟨S10240x8192, .bf16⟩

abbrev bufTy : (tb : Table) → Fin (tcTables nBuf tb) → BufTy
  | .hbm, ⟨i, _⟩ => hbmTy i
  | .local _ .vmem, ⟨0, _⟩ => ⟨S10240x8192, .f32⟩
  | .local _ .vmem, ⟨1, _⟩ => ⟨S8192x10240, .f32⟩
  | .local _ .vmem, ⟨2, _⟩ => ⟨S10240x8192, .fp8e5m2⟩
  | .local _ .vmem, ⟨3, _⟩ => ⟨S8192x10240, .fp8e5m2⟩
  | _, _ => ⟨S10240x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_9 : Ref sig .tc := ⟨.hbm, 44, rfl⟩
abbrev main_v32 : Ref sig .tc := ⟨.hbm, 45, rfl⟩
abbrev main_cst_10 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_11 : Ref sig .tc := ⟨.hbm, 51, rfl⟩
abbrev main_v37 : Ref sig .tc := ⟨.hbm, 52, rfl⟩
abbrev main_cst_12 : Ref sig .tc := ⟨.hbm, 53, rfl⟩
abbrev main_v38 : Ref sig .tc := ⟨.hbm, 54, rfl⟩
abbrev main_v39 : Ref sig .tc := ⟨.hbm, 55, rfl⟩
abbrev main_cst_13 : Ref sig .tc := ⟨.hbm, 56, rfl⟩
abbrev main_v40 : Ref sig .tc := ⟨.hbm, 57, rfl⟩
abbrev main_v41 : Ref sig .tc := ⟨.hbm, 58, rfl⟩
abbrev main_cst_14 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_15 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_16 : Ref sig .tc := ⟨.hbm, 69, rfl⟩
abbrev main_v50 : Ref sig .tc := ⟨.hbm, 70, rfl⟩
abbrev main_v51 : Ref sig .tc := ⟨.hbm, 71, rfl⟩
abbrev main_cst_17 : Ref sig .tc := ⟨.hbm, 72, rfl⟩
abbrev main_call0_v0 : Ref sig .tc := ⟨.hbm, 73, rfl⟩
abbrev main_call0_v1 : Ref sig .tc := ⟨.hbm, 74, rfl⟩
abbrev main_v52 : Ref sig .tc := ⟨.hbm, 75, rfl⟩
abbrev main_cst_18 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_19 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_20 : Ref sig .tc := ⟨.hbm, 90, rfl⟩
abbrev main_cst_21 : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_22 : Ref sig .tc := ⟨.hbm, 100, rfl⟩
abbrev main_v68 : Ref sig .tc := ⟨.hbm, 101, rfl⟩
abbrev main_cst_23 : Ref sig .tc := ⟨.hbm, 102, rfl⟩
abbrev main_v69 : Ref sig .tc := ⟨.hbm, 103, rfl⟩
abbrev main_v70 : Ref sig .tc := ⟨.hbm, 104, rfl⟩
abbrev main_cst_24 : Ref sig .tc := ⟨.hbm, 105, rfl⟩
abbrev main_v71 : Ref sig .tc := ⟨.hbm, 106, rfl⟩
abbrev main_v72 : Ref sig .tc := ⟨.hbm, 107, rfl⟩
abbrev main_cst_25 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_26 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_27 : Ref sig .tc := ⟨.hbm, 118, rfl⟩
abbrev main_v81 : Ref sig .tc := ⟨.hbm, 119, rfl⟩
abbrev main_v82 : Ref sig .tc := ⟨.hbm, 120, rfl⟩
abbrev main_cst_28 : Ref sig .tc := ⟨.hbm, 121, rfl⟩
abbrev main_call2_v0 : Ref sig .tc := ⟨.hbm, 122, rfl⟩
abbrev main_call2_v1 : Ref sig .tc := ⟨.hbm, 123, rfl⟩
abbrev main_v83 : Ref sig .tc := ⟨.hbm, 124, rfl⟩
abbrev main_cst_29 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_30 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_31 : Ref sig .tc := ⟨.hbm, 139, rfl⟩
abbrev main_cst_32 : Ref sig .tc := ⟨.hbm, 140, rfl⟩
abbrev main_call3_v0 : Ref sig .tc := ⟨.hbm, 141, rfl⟩
abbrev main_call3_v1 : Ref sig .tc := ⟨.hbm, 142, rfl⟩
abbrev main_call3_v2 : Ref sig .tc := ⟨.hbm, 143, rfl⟩
abbrev main_call3_v3 : Ref sig .tc := ⟨.hbm, 144, rfl⟩
abbrev main_call3_v4 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100_0 : Ref sig .tc := ⟨.hbm, 150, rfl⟩
abbrev main_v100_1 : Ref sig .tc := ⟨.hbm, 151, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S10240x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x10240 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10240x8192 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x10240 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelFrame.lean ====
/- The frame of `Kernel`: the kernel runs to its end, faults nowhere and leaves its arguments as they were. Nothing is said
   here of what it computes, so every buffer the body writes is held at unnamed contents: through the counted loop
   (`loopInv_k0_t1`), through the body (`body_any`) and from one grid point to the next. -/
module

public import proofs.«01_k».proof.Proof.Gen.Kernel
public import proofs.«01_k».proof.Proof.Gen.Kernel.Frame
public import proofs.«01_k».proof.Proof.Gen.Kernel.Loops

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option warn.classDefReducibility false in
/-- The loop over the 64 column groups: the two inputs stay as they are, the buffers it stores into hold anything. -/
@[sl_loop] def loopInv_k0_t1 (c : Dev nD) (E : Set ℕ) (i : grid0.Coords)
    (arg1 : Memref sig .tc .vmem S128x8192 .bf16) (harg1 : arg1.IsWhole) (arg2 : Memref sig .tc .vmem S128x8192 .bf16) (harg2 : arg2.IsWhole)
    (arg3 : Memref sig .tc .vmem S1x8192 .f32) (harg3 : arg3.IsWhole) (arg4 : Memref sig .tc .vmem S128x8192 .fp8e5m2) (harg4 : arg4.IsWhole)
    (arg5 : Memref sig .tc .vmem S128x64 .f32) (harg5 : arg5.IsWhole) (arg6 : Memref sig .tc .vmem S8192x128 .fp8e5m2) (harg6 : arg6.IsWhole)
    (arg7 : Memref sig .tc .vmem S8192x80 .f32) (harg7 : arg7.IsWhole) (arg8 : Memref sig .tc .vmem S8x8192 .f32) (harg8 : arg8.IsWhole)
    (arg9 : Memref sig .tc .vmem S80x8192 .f32) (harg9 : arg9.IsWhole)
    (arg0 : BitVec 32) (v3 : IVec S128x128 32)
    (X1 : BufTy.Contents (Elt F) arg1.view.ty) (X2 : BufTy.Contents (Elt F) arg2.view.ty) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 arg0 v3 where
  inv _ _ := iprop((arg1.view.loc (c : Thread nD τ) ↦[arg1.view.set]{fullShare} X1)
      ∗ (arg2.view.loc (c : Thread nD τ) ↦[arg2.view.set]{fullShare} X2)
      ∗ (∃ f, (arg4.view.loc (c : Thread nD τ) ↦[arg4.view.set]{fullShare} f))
      ∗ (∃ f, (arg5.view.loc (c : Thread nD τ) ↦[arg5.view.set]{fullShare} f))
      ∗ (∃ f, (arg6.view.loc (c : Thread nD τ) ↦[arg6.view.set]{fullShare} f))
      ∗ (∃ f, (arg8.view.loc (c : Thread nD τ) ↦[arg8.view.set]{fullShare} f))
      ∗ (∃ f, (arg9.view.loc (c : Thread nD τ) ↦[arg9.view.set]{fullShare} f)))
  step k acc := by
    have hk : k.val < 64 := Nat.lt_of_lt_of_le k.isLt k0_t1_abs.2.1
    unfold k0_t1_body
    simp only [k0_part1_eq_skeleton, k0_part2_eq_skeleton, k0_part3_eq_skeleton, k0_part4_eq_skeleton, k0_part5_eq_skeleton]
    unfold k0_part1_skel k0_part2_skel k0_part3_skel k0_part4_skel k0_part5_skel
    iintro ⟨H1, H2, ⟨%f4, H4⟩, ⟨%f5, H5⟩, ⟨%f6, H6⟩, ⟨%f8, H8⟩, ⟨%f9, H9⟩⟩
    sl_exec
    sl_step
    isplitl [H1]; · iexact H1
    isplitl [H2]; · iexact H2
    isplitl [H4]; · iexists _; iexact H4
    isplitl [H5]; · iexists _; iexact H5
    isplitl [H6]; · iexists _; iexact H6
    isplitl [H8]; · iexists _; iexact H8
    iexists _; iexact H9

/-- The body's two branch conditions, from the grid point. -/
abbrev cond0 (i : grid0.Coords) : Prop :=
  Scalar.cmpi .ne (Scalar.extui (Scalar.cmpi .eq (BitVec.ofNat 32 (i 0).val) 0#32)) 0#32 = 1#1
abbrev cond1 (i : grid0.Coords) : Prop := k0_cond2 i = 1#1

set_option maxHeartbeats 4000000 in
/-- The body at any grid point: it leaves the two inputs as they are and every other buffer at some contents. -/
theorem body_any (c : Dev nD) (E : Set ℕ) (i : grid0.Coords)
    (arg1 : Memref sig .tc .vmem S128x8192 .bf16) (harg1 : arg1.IsWhole) (arg2 : Memref sig .tc .vmem S128x8192 .bf16) (harg2 : arg2.IsWhole)
    (arg3 : Memref sig .tc .vmem S1x8192 .f32) (harg3 : arg3.IsWhole) (arg4 : Memref sig .tc .vmem S128x8192 .fp8e5m2) (harg4 : arg4.IsWhole)
    (arg5 : Memref sig .tc .vmem S128x64 .f32) (harg5 : arg5.IsWhole) (arg6 : Memref sig .tc .vmem S8192x128 .fp8e5m2) (harg6 : arg6.IsWhole)
    (arg7 : Memref sig .tc .vmem S8192x80 .f32) (harg7 : arg7.IsWhole) (arg8 : Memref sig .tc .vmem S8x8192 .f32) (harg8 : arg8.IsWhole)
    (arg9 : Memref sig .tc .vmem S80x8192 .f32) (harg9 : arg9.IsWhole)
    (x0 : Vec F S128x8192 .bf16) (x1 : Vec F S128x8192 .bf16) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
      ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
    ⊢ wp frame (wpE (defs₀ (F := F)) Variants.none c none) E (cc0_gelu_bwd_quant i arg1 harg1 arg2 harg2 arg3 harg3 arg4 harg4 arg5 harg5 arg6 harg6 arg7 harg7 arg8 harg8 arg9 harg9) K := by
  simp only [cc0_gelu_bwd_quant_eq_skeleton]; unfold cc0_gelu_bwd_quant_skel
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
  by_cases hc0 : cond0 i <;> by_cases hc1 : cond1 i
  all_goals
    sl_exec (disch := first | sl_exact hc0 | sl_exact hc1)
    sl_step
    iapply Hk
    isplitl [H0]
    · iexists _; isplitr; · ipureintro; exact hf0
      iexact H0
    isplitl [H1]
    · iexists _; isplitr; · ipureintro; exact hf1
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    iexists _, _; isplitr; swap; · iexact H8
    ipureintro; rfl

variable (m : (ℓ : Loc nD τ sig) → Buf (Elt F) ℓ) (ρ : Dev nD → PrngReg)

/-- The two scratch operands. -/
abbrev scM0 : Memref sig .tc .vmem S8x8192 .f32 := Memref.whole cc0_scratch0
abbrev scM1 : Memref sig .tc .vmem S80x8192 .f32 := Memref.whole cc0_scratch1

/-- The region's invariant with the scratch operands as memrefs at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The output windows: what the body leaves in them is not named. -/
def forgets0 : Fin 7 → Bool := fun w => w.val == 2 || w.val == 3 || w.val == 4 || w.val == 5 || w.val == 6

/-- The proof data: the inputs' buffers hold their blocks after the body, the outputs anything, the scratch anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl,
    show (dats m 0 c).Φ t.succ = Pipeline.ΦA spec0 c from rfl,
    show (dats m 0 c).Φ t.castSucc = Pipeline.ΦA spec0 c from rfl, PhiA_eq,
    show (dats m 0 c).leavesExact 0 t = owns (c : Thread nD τ) (st0_0 t) fullShare ((dats m 0 c).after 0 t) from by
      unfold Dat.leavesExact; rw [show cfg0.idle 0 (grid0.coords t) = false from rfl],
    show (dats m 0 c).leavesExact 1 t = owns (c : Thread nD τ) (st0_1 t) fullShare ((dats m 0 c).after 1 t) from by
      unfold Dat.leavesExact; rw [show cfg0.idle 1 (grid0.coords t) = false from rfl],
    after_0, after_1]
  iintro ⟨⟨⟨HS0, HS1⟩, Hg⟩, Ho, ⟨%d0, H0⟩, ⟨%d1, H1⟩, H2, H3, H4, H5, H6⟩
  iapply (body_any c Set.univ (grid0.coords t) _ _ _ _ _ _ _ _ _ _ _ _ _ _ scM0 (Memref.isWhole_whole _) scM1 (Memref.isWhole_whole _) (iblk m c 0 t) (iblk m c 1 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t` is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: the inputs unchanged, every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- The frame: the arguments end as they were and every semaphore counter reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c))⟩, h.2⟩) (run_main_quiescent m ρ)

end Cert.Proof.Kernel

end
-- ==== Proof.Loop.lean ====
/- One trip of the kernel's loop over the column groups, and the loop's invariant: each buffer holds what the trips so far,
   one after the other, made of what it held when the loop began. -/
module

public import proofs.«01_k».proof.Proof.Gen.KernelIdeal
public import proofs.«01_k».proof.Proof.Gen.KernelIdeal.Frame
public import proofs.«01_k».proof.Proof.Gen.KernelIdeal.Loops

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-! ## What one trip computes from its two tiles -/

/-- The row scales' field and its validity, -/
def rowExp (xt gt : Vec F S128x128 .bf16) : IVec S128x1 32 := k0_pay11 (k0_pay9 xt gt) k0_pay10
def rowOk (xt gt : Vec F S128x128 .bf16) : IVec S128x1 1 := k0_pay12 (k0_pay9 xt gt) k0_pay10
/-- the row codes, -/
def rcT (xt gt : Vec F S128x128 .bf16) : Vec F S128x128 .fp8e5m2 := k0_pay14 (k0_pay6 xt gt) (rowExp xt gt) (rowOk xt gt)
/-- the row scales, the same in every lane, -/
def rsT (xt gt : Vec F S128x128 .bf16) : Vec F S128x64 .f32 := k0_pay15 (rowExp xt gt) (rowOk xt gt) k0_pay13
/-- the column scales, -/
def csT (xt gt : Vec F S128x128 .bf16) : FVec F S1x128 .f32 :=
  k0_pay22 (k0_pay17 (k0_pay7 xt gt)) (k0_pay18 (k0_pay7 xt gt)) k0_pay19
/-- the column scales, the same in each of eight rows, -/
def cs8T (xt gt : Vec F S128x128 .bf16) : Vec F S8x128 .f32 := k0_pay2 (k0_pay25 (csT xt gt))
/-- the column codes, transposed. -/
def ccT (xt gt : Vec F S128x128 .bf16) : Vec F S128x128 .fp8e5m2 :=
  k0_pay24 (k0_pay23 (k0_pay6 xt gt) (k0_pay17 (k0_pay7 xt gt)) (k0_pay18 (k0_pay7 xt gt)) k0_pay19)
    (Scalar.ofBits .f32 0xC7600000#32) (Scalar.ofBits .f32 0x47600000#32)

/-! ## Steps one after the other -/

/-- What the first `k` of `n` steps make of `x`, -/
def steps {α : Type} {n : ℕ} (step : Fin n → α → α) (x : α) : ℕ → α
  | 0 => x
  | k + 1 => if h : k < n then step ⟨k, h⟩ (steps step x k) else steps step x k

/-- in a form that computation leaves alone. -/
@[irreducible] def iter {α : Type} {n : ℕ} (step : Fin n → α → α) (x : α) (k : ℕ) : α := steps step x k

theorem iter_succ {α : Type} {n : ℕ} (step : Fin n → α → α) (x : α) (k : Fin n) :
    iter step x (k.val + 1) = step k (iter step x k.val) := by
  unfold iter; rw [steps.eq_2]; exact dif_pos k.isLt

theorem iter_zero {α : Type} {n : ℕ} (step : Fin n → α → α) (x : α) : iter step x 0 = x := by unfold iter; rfl

/-- The same, its start by computation: the form in which a loop's invariant is found. -/
abbrev iterF {α : Type} {n : ℕ} (step : Fin n → α → α) (x : α) (k : ℕ) : α :=
  Nat.casesOn (motive := fun _ => α) k x fun k => iter step x (k + 1)

theorem iterF_eq {α : Type} {n : ℕ} (step : Fin n → α → α) (x : α) (k : ℕ) : iterF step x k = iter step x k := by
  cases k with
  | zero => exact (iter_zero step x).symm
  | succ k => rfl

/-! ## What one trip does to each buffer -/

abbrev Trip := Fin (Scf.trips k0_t1_loop.lb k0_t1_loop.ub k0_t1_loop.st)

/-- The tile that trip `k` loads of an input block. -/
def tile (arg : Memref sig .tc .vmem S128x8192 .bf16) (X : BufTy.Contents (Elt F) arg.view.ty) (k : Trip) : Vec F S128x128 .bf16 :=
  View.readAt (Elt F) arg.view (Rect.unit (s := S128x8192) (k0_off1 k) S128x128.size (k0_off1_inb k)).toLoadRect X

section Steps

variable (arg1 : Memref sig .tc .vmem S128x8192 .bf16) (arg2 : Memref sig .tc .vmem S128x8192 .bf16)
    (X1 : BufTy.Contents (Elt F) arg1.view.ty) (X2 : BufTy.Contents (Elt F) arg2.view.ty)

def st4 (arg4 : Memref sig .tc .vmem S128x8192 .fp8e5m2) (k : Trip) (f : BufTy.Contents (Elt F) arg4.view.ty) : BufTy.Contents (Elt F) arg4.view.ty :=
  arg4.view.writes (Elt F) f [⟨Rect.unit (s := S128x8192) (k0_off1 k) S128x128.size (k0_off1_inb k), rcT (tile arg1 X1 k) (tile arg2 X2 k)⟩]
def st5 (v3 : IVec S128x128 32) (arg5 : Memref sig .tc .vmem S128x64 .f32) (k : Trip) (f : BufTy.Contents (Elt F) arg5.view.ty) : BufTy.Contents (Elt F) arg5.view.ty :=
  (arg5.view.slice (Rect.unit (s := S128x64) ![0, 0] S128x64.size inb_S128x64_S128x64_0_0)).write (Elt F) f (rsT (tile arg1 X1 k) (tile arg2 X2 k))
    (IVec.on (k0_pay16 v3 (Scalar.addi 0#32 (Scalar.muli (Scf.iv 0#32 1#32 k) 1#32))))
def st6 (arg6 : Memref sig .tc .vmem S8192x128 .fp8e5m2) (k : Trip) (f : BufTy.Contents (Elt F) arg6.view.ty) : BufTy.Contents (Elt F) arg6.view.ty :=
  arg6.view.writes (Elt F) f [⟨Rect.unit (s := S8192x128) (k0_off3 k) S128x128.size (k0_off3_inb k), ccT (tile arg1 X1 k) (tile arg2 X2 k)⟩]
def st8 (arg8 : Memref sig .tc .vmem S8x8192 .f32) (k : Trip) (f : BufTy.Contents (Elt F) arg8.view.ty) : BufTy.Contents (Elt F) arg8.view.ty :=
  arg8.view.writes (Elt F) f [⟨Rect.unit (s := S8x8192) (k0_off2 k) S8x128.size (k0_off2_inb k), k0_pay8 (tile arg1 X1 k) (tile arg2 X2 k)
    (View.readAt (Elt F) arg8.view (Rect.unit (s := S8x8192) (k0_off2 k) S8x128.size (k0_off2_inb k)).toLoadRect f)⟩]
def st9 (arg0 : BitVec 32) (i : grid0.Coords) (arg9 : Memref sig .tc .vmem S80x8192 .f32) (k : Trip) (f : BufTy.Contents (Elt F) arg9.view.ty) : BufTy.Contents (Elt F) arg9.view.ty :=
  (arg9.view.slice (Rect.unit (s := S80x8192) (k0_off4 i k) S8x128.size (k0_off4_inb i k))).write (Elt F) f (cs8T (tile arg1 X1 k) (tile arg2 X2 k))
    (IVec.on (k0_pay3 (k0_pay26 arg0)))

end Steps

/-! ## The loop's invariant -/

set_option warn.classDefReducibility false in
/-- The loop over the 64 column groups: the two inputs stay as they are, each buffer that it stores into holds what the
    trips before made of its contents. -/
@[sl_loop] def loopInv_k0_t1 (c : Dev nD) (E : Set ℕ) (i : grid0.Coords)
    (arg1 : Memref sig .tc .vmem S128x8192 .bf16) (harg1 : arg1.IsWhole) (arg2 : Memref sig .tc .vmem S128x8192 .bf16) (harg2 : arg2.IsWhole)
    (arg3 : Memref sig .tc .vmem S1x8192 .f32) (harg3 : arg3.IsWhole) (arg4 : Memref sig .tc .vmem S128x8192 .fp8e5m2) (harg4 : arg4.IsWhole)
    (arg5 : Memref sig .tc .vmem S128x64 .f32) (harg5 : arg5.IsWhole) (arg6 : Memref sig .tc .vmem S8192x128 .fp8e5m2) (harg6 : arg6.IsWhole)
    (arg7 : Memref sig .tc .vmem S8192x80 .f32) (harg7 : arg7.IsWhole) (arg8 : Memref sig .tc .vmem S8x8192 .f32) (harg8 : arg8.IsWhole)
    (arg9 : Memref sig .tc .vmem S80x8192 .f32) (harg9 : arg9.IsWhole)
    (arg0 : BitVec 32) (v3 : IVec S128x128 32)
    (X1 : BufTy.Contents (Elt F) arg1.view.ty) (X2 : BufTy.Contents (Elt F) arg2.view.ty)
    (G4 : BufTy.Contents (Elt F) arg4.view.ty) (G5 : BufTy.Contents (Elt F) arg5.view.ty) (G6 : BufTy.Contents (Elt F) arg6.view.ty)
    (G8 : BufTy.Contents (Elt F) arg8.view.ty) (G9 : BufTy.Contents (Elt F) arg9.view.ty) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 arg0 v3 where
  inv k _ := iprop((arg1.view.loc (c : Thread nD τ) ↦[arg1.view.set]{fullShare} X1)
      ∗ (arg2.view.loc (c : Thread nD τ) ↦[arg2.view.set]{fullShare} X2)
      ∗ (∃ f, (arg4.view.loc (c : Thread nD τ) ↦[arg4.view.set]{fullShare} f) ∗ ⌜f = iterF (st4 arg1 arg2 X1 X2 arg4) G4 k⌝)
      ∗ (∃ f, (arg5.view.loc (c : Thread nD τ) ↦[arg5.view.set]{fullShare} f) ∗ ⌜f = iterF (st5 arg1 arg2 X1 X2 v3 arg5) G5 k⌝)
      ∗ (∃ f, (arg6.view.loc (c : Thread nD τ) ↦[arg6.view.set]{fullShare} f) ∗ ⌜f = iterF (st6 arg1 arg2 X1 X2 arg6) G6 k⌝)
      ∗ (∃ f, (arg8.view.loc (c : Thread nD τ) ↦[arg8.view.set]{fullShare} f) ∗ ⌜f = iterF (st8 arg1 arg2 X1 X2 arg8) G8 k⌝)
      ∗ (∃ f, (arg9.view.loc (c : Thread nD τ) ↦[arg9.view.set]{fullShare} f) ∗ ⌜f = iterF (st9 arg1 arg2 X1 X2 arg0 i arg9) G9 k⌝))
  step k acc := by
    have hk : k.val < 64 := Nat.lt_of_lt_of_le k.isLt k0_t1_abs.2.1
    unfold k0_t1_body
    simp only [k0_part1_eq_skeleton, k0_part2_eq_skeleton, k0_part3_eq_skeleton, k0_part4_eq_skeleton, k0_part5_eq_skeleton]
    unfold k0_part1_skel k0_part2_skel k0_part3_skel k0_part4_skel k0_part5_skel
    iintro ⟨H1, H2, ⟨%f4, H4, %h4⟩, ⟨%f5, H5, %h5⟩, ⟨%f6, H6, %h6⟩, ⟨%f8, H8, %h8⟩, ⟨%f9, H9, %h9⟩⟩
    rw [iterF_eq] at h4 h5 h6 h8 h9
    sl_exec
    sl_step
    simp only [iterF]
    rw [iter_succ (st4 arg1 arg2 X1 X2 arg4) G4 k, iter_succ (st5 arg1 arg2 X1 X2 v3 arg5) G5 k, iter_succ (st6 arg1 arg2 X1 X2 arg6) G6 k,
      iter_succ (st8 arg1 arg2 X1 X2 arg8) G8 k, iter_succ (st9 arg1 arg2 X1 X2 arg0 i arg9) G9 k, ← h4, ← h5, ← h6, ← h8, ← h9]
    isplitl [H1]; · iexact H1
    isplitl [H2]; · iexact H2
    isplitl [H4]
    · iexists _; isplitl [H4]; · iexact H4
      ipureintro; dsimp only [st4, st5, st6, st8, st9, rcT, rsT, rowExp, rowOk, csT, cs8T, ccT, tile] <;> rfl
    isplitl [H5]
    · iexists _; isplitl [H5]; · iexact H5
      ipureintro; unfold loopInv_k0_t1.sl.H5_w1 loopInv_k0_t1.sl.v9 loopInv_k0_t1.sl.v8; dsimp only [st4, st5, st6, st8, st9, rcT, rsT, rowExp, rowOk, csT, cs8T, ccT, tile] <;> rfl
    isplitl [H6]
    · iexists _; isplitl [H6]; · iexact H6
      ipureintro; dsimp only [st4, st5, st6, st8, st9, rcT, rsT, rowExp, rowOk, csT, cs8T, ccT, tile] <;> rfl
    isplitl [H8]
    · iexists _; isplitl [H8]; · iexact H8
      ipureintro; dsimp only [st4, st5, st6, st8, st9, rcT, rsT, rowExp, rowOk, csT, cs8T, ccT, tile] <;> rfl
    iexists _; isplitl [H9]; · iexact H9
    ipureintro; dsimp only [st4, st5, st6, st8, st9, rcT, rsT, rowExp, rowOk, csT, cs8T, ccT, tile] <;> rfl

end Cert.Proof.Run
-- ==== Proof.Blocks.lean ====
/- What one block's buffers hold after the loop over the 64 column groups, as functions of the block's two inputs (and, for
   the two scratch buffers, of what they held before). -/
module

public import proofs.«01_k».proof.Proof.Loop
public import Idealize.ShloMosaic.Lib.WritesUnit
public import Idealize.ShloMosaic.Lib.VecWindow
public import Idealize.ShloMosaic.Lib.PointwiseCore

@[expose] public section

set_option maxRecDepth 16384

noncomputable section

namespace Cert.Proof.Run

open Cert.KernelIdeal Cert.KernelIdeal.Gen
open Idealize.ShloMosaic Idealize.ShloMosaic.TcCoe Idealize.ShloMosaic.Tactic

variable {F : FTy → Type} [FloatOps F] [Named F]

/-! ## The functions -/

/-- Column group `k` of an input block, -/
def vt (x : Vec F S128x8192 .bf16) (k : Fin 64) : Vec F S128x128 .bf16 :=
  fun j => x (ix2 (j 0) ⟨128 * k.val + (j 1).val, by have := k.isLt; have : (j 1).val < 128 := (j 1).isLt; omega⟩)
/-- and of the running sums. -/
def vs (x : Vec F S8x8192 .f32) (k : Fin 64) : Vec F S8x128 .f32 :=
  fun j => x (ix2 (j 0) ⟨128 * k.val + (j 1).val, by have := k.isLt; have : (j 1).val < 128 := (j 1).isLt; omega⟩)

/-- The group that a column lies in, and its lane there. -/
def grp (n : Fin 8192) : Fin 64 := ⟨n.val / 128, by omega⟩
def lane (n : Fin 8192) : Fin 128 := ⟨n.val % 128, by omega⟩

/-- The row codes of a block, -/
def rcB (x g : Vec F S128x8192 .bf16) : Vec F S128x8192 .fp8e5m2 :=
  fun y => rcT (vt x (grp (y 1))) (vt g (grp (y 1))) (ix2 (y 0) (lane (y 1)))
/-- its row scales, -/
def rsB (x g : Vec F S128x8192 .bf16) : Vec F S128x64 .f32 :=
  fun y => rsT (vt x (y 1)) (vt g (y 1)) y
/-- its column codes, transposed, -/
def ccB (x g : Vec F S128x8192 .bf16) : Vec F S8192x128 .fp8e5m2 :=
  fun y => ccT (vt x (grp (y 0))) (vt g (grp (y 0))) (ix2 (lane (y 0)) (y 1))
/-- the running sums, the block's added, -/
def sumB (x g : Vec F S128x8192 .bf16) (old : Vec F S8x8192 .f32) : Vec F S8x8192 .f32 :=
  fun y => k0_pay8 (vt x (grp (y 1))) (vt g (grp (y 1))) (vs old (grp (y 1))) (ix2 (y 0) (lane (y 1)))
/-- its column scales, -/
def csR (x g : Vec F S128x8192 .bf16) (n : Fin 8192) : F .f32 :=
  csT (vt x (grp n)) (vt g (grp n)) (ix2 0 (lane n))
/-- and the scales gathered so far, with the block's as row `i`. -/
def csB (i : ℕ) (x g : Vec F S128x8192 .bf16) (old : Vec F S80x8192 .f32) : Vec F S80x8192 .f32 :=
  fun y => if (y 0).val = i then csR x g (y 1) else old y

/-! ## The trips, one after the other -/

theorem trips_eq : Scf.trips k0_t1_loop.lb k0_t1_loop.ub k0_t1_loop.st = 64 := by decide +kernel

/-- Steps that each write their own group of entries, from what the group held at first. -/
theorem iter_read {α β ι : Type} {n : ℕ} (step : Fin n → α → α) (x : α) (rd : α → ι → β) (gr : ι → ℕ) (new : ι → β)
    (hit : ∀ (k : Fin n) (f : α), (∀ y, gr y = k.val → rd f y = rd x y) → ∀ y, gr y = k.val → rd (step k f) y = new y)
    (miss : ∀ (k : Fin n) (f : α) (y : ι), gr y ≠ k.val → rd (step k f) y = rd f y) :
    ∀ k, k ≤ n → ∀ y, rd (iter step x k) y = if gr y < k then new y else rd x y := by
  intro k
  induction k with
  | zero => intro _ y; rw [if_neg (Nat.not_lt_zero _), iter_zero]
  | succ k ih =>
    intro hk y
    have ih' := ih (Nat.le_of_succ_le hk)
    rw [show iter step x (k + 1) = step ⟨k, hk⟩ (iter step x k) from iter_succ step x ⟨k, hk⟩]
    by_cases h : gr y = k
    · rw [hit ⟨k, hk⟩ _ (fun y' hy' => by rw [ih' y', if_neg (by have : gr y' = k := hy'; omega)]) y h, if_pos (by omega)]
    · rw [miss ⟨k, hk⟩ _ y h, ih' y]
      by_cases h2 : gr y < k
      · rw [if_pos h2, if_pos (by omega)]
      · rw [if_neg h2, if_neg (by omega)]

/-- A trip's number as a column group. -/
def kf (k : Trip) : Fin 64 := ⟨k.val, by have := k.isLt; have := trips_eq; omega⟩

theorem tile_eq (arg : Memref sig .tc .vmem S128x8192 .bf16) (X : BufTy.Contents (Elt F) arg.view.ty) (k : Trip) :
    tile arg X k = vt (arg.view.read (Elt F) X) (kf k) := by
  funext j
  have hk := (kf k).isLt
  unfold tile vt
  rw [View.readAt_unit arg.view X (k0_off1_inb k) (k0_off1_eq k) (by rw [← k0_off1_eq k]; exact k0_off1_inb k)]
  unfold VecWindow.window
  congr 1
  funext a
  apply Fin.ext
  match a with
  | 0 => show 0 + 1 * (j 0).val = (j 0).val; omega
  | 1 => show 128 * k.val + 1 * (j 1).val = 128 * k.val + (j 1).val; omega

theorem tile8_eq (arg : Memref sig .tc .vmem S8x8192 .f32) (X : BufTy.Contents (Elt F) arg.view.ty) (k : Trip) :
    View.readAt (Elt F) arg.view (Rect.unit (s := S8x8192) (k0_off2 k) S8x128.size (k0_off2_inb k)).toLoadRect X
      = vs (arg.view.read (Elt F) X) (kf k) := by
  funext j
  unfold vs
  rw [View.readAt_unit arg.view X (k0_off2_inb k) (k0_off2_eq k) (by rw [← k0_off2_eq k]; exact k0_off2_inb k)]
  unfold VecWindow.window
  congr 1
  funext a
  apply Fin.ext
  match a with
  | 0 => show 0 + 1 * (j 0).val = (j 0).val; omega
  | 1 => show 128 * k.val + 1 * (j 1).val = 128 * k.val + (j 1).val; omega

theorem grp_of {k : Trip} {n : Fin 8192} (h : n.val / 128 = k.val) : grp n = kf k := Fin.ext h

section

variable (arg1 : Memref sig .tc .vmem S128x8192 .bf16) (arg2 : Memref sig .tc .vmem S128x8192 .bf16)
    (X1 : BufTy.Contents (Elt F) arg1.view.ty) (X2 : BufTy.Contents (Elt F) arg2.view.ty)

theorem read_st4 (arg4 : Memref sig .tc .vmem S128x8192 .fp8e5m2) (G : BufTy.Contents (Elt F) arg4.view.ty) :
    arg4.view.read (Elt F) (iter (st4 arg1 arg2 X1 X2 arg4) G (Scf.trips k0_t1_loop.lb k0_t1_loop.ub k0_t1_loop.st))
      = rcB (arg1.view.read (Elt F) X1) (arg2.view.read (Elt F) X2) := by
  funext y
  have h := iter_read (st4 arg1 arg2 X1 X2 arg4) G (arg4.view.read (Elt F)) (fun y => (y 1).val / 128)
    (rcB (arg1.view.read (Elt F) X1) (arg2.view.read (Elt F) X2)) ?_ ?_ _ (le_refl _) y
  · have h1 : (y 1).val < 8192 := (y 1).isLt
    rw [h, if_pos (by rw [trips_eq]; omega)]
  · intro k f _ y hy
    unfold st4
    rw [View.read_writes_cons_unit_of_mem arg4.view f (k0_off1_inb k) _ [] y (ix2 (y 0) (lane (y 1))) (k0_off1_eq k) ?_]
    · unfold rcB
      rw [grp_of hy, tile_eq, tile_eq]
    · intro a
      match a with
      | 0 => exact (Nat.zero_add _).symm
      | 1 =>
        have hy' : (y 1).val / 128 = k.val := hy
        show (y 1).val = 128 * k.val + (y 1).val % 128
        omega
  · intro k f y hy
    unfold st4
    rw [View.read_writes_cons_unit_of_not_mem arg4.view f (k0_off1_inb k) _ [] y (k0_off1_eq k) 1 ?_]
    · rfl
    · have hy' : ¬ (y 1).val / 128 = k.val := hy
      show (y 1).val < 128 * k.val ∨ 128 * k.val + 128 ≤ (y 1).val
      omega

theorem read_st6 (arg6 : Memref sig .tc .vmem S8192x128 .fp8e5m2) (G : BufTy.Contents (Elt F) arg6.view.ty) :
    arg6.view.read (Elt F) (iter (st6 arg1 arg2 X1 X2 arg6) G (Scf.trips k0_t1_loop.lb k0_t1_loop.ub k0_t1_loop.st))
      = ccB (arg1.view.read (Elt F) X1) (arg2.view.read (Elt F) X2) := by
  funext y
  have h := iter_read (st6 arg1 arg2 X1 X2 arg6) G (arg6.view.read (Elt F)) (fun y => (y 0).val / 128)
    (ccB (arg1.view.read (Elt F) X1) (arg2.view.read (Elt F) X2)) ?_ ?_ _ (le_refl _) y
  · have h1 : (y 0).val < 8192 := (y 0).isLt
    rw [h, if_pos (by rw [trips_eq]; omega)]
  · intro k f _ y hy
    unfold st6
    rw [View.read_writes_cons_unit_of_mem arg6.view f (k0_off3_inb k) _ [] y (ix2 (lane (y 0)) (y 1)) (k0_off3_eq k) ?_]
    · unfold ccB
      rw [grp_of hy, tile_eq, tile_eq]
    · intro a
      match a with
      | 0 =>
        have hy' : (y 0).val / 128 = k.val := hy
        show (y 0).val = 128 * k.val + (y 0).val % 128
        omega
      | 1 => exact (Nat.zero_add _).symm
  · intro k f y hy
    unfold st6
    rw [View.read_writes_cons_unit_of_not_mem arg6.view f (k0_off3_inb k) _ [] y (k0_off3_eq k) 0 ?_]
    · rfl
    · have hy' : ¬ (y 0).val / 128 = k.val := hy
      show (y 0).val < 128 * k.val ∨ 128 * k.val + 128 ≤ (y 0).val
      omega

theorem read_st8 (arg8 : Memref sig .tc .vmem S8x8192 .f32) (G : BufTy.Contents (Elt F) arg8.view.ty) :
    arg8.view.read (Elt F) (iter (st8 arg1 arg2 X1 X2 arg8) G (Scf.trips k0_t1_loop.lb k0_t1_loop.ub k0_t1_loop.st))
      = sumB (arg1.view.read (Elt F) X1) (arg2.view.read (Elt F) X2) (arg8.view.read (Elt F) G) := by
  funext y
  have h := iter_read (st8 arg1 arg2 X1 X2 arg8) G (arg8.view.read (Elt F)) (fun y => (y 1).val / 128)
    (sumB (arg1.view.read (Elt F) X1) (arg2.view.read (Elt F) X2) (arg8.view.read (Elt F) G)) ?_ ?_ _ (le_refl _) y
  · have h1 : (y 1).val < 8192 := (y 1).isLt
    rw [h, if_pos (by rw [trips_eq]; omega)]
  · intro k f hf y hy
    unfold st8
    rw [View.read_writes_cons_unit_of_mem arg8.view f (k0_off2_inb k) _ [] y (ix2 (y 0) (lane (y 1))) (k0_off2_eq k) ?_]
    · unfold sumB
      rw [grp_of hy, tile_eq, tile_eq, tile8_eq]
      have e : vs (arg8.view.read (Elt F) f) (kf k) = vs (arg8.view.read (Elt F) G) (kf k) := by
        funext j
        refine hf _ ?_
        have hj : (j 1).val < 128 := (j 1).isLt
        show (128 * k.val + (j 1).val) / 128 = k.val
        omega
      rw [e]
    · intro a
      match a with
      | 0 => exact (Nat.zero_add _).symm
      | 1 =>
        have hy' : (y 1).val / 128 = k.val := hy
        show (y 1).val = 128 * k.val + (y 1).val % 128
        omega
  · intro k f y hy
    unfold st8
    rw [View.read_writes_cons_unit_of_not_mem arg8.view f (k0_off2_inb k) _ [] y (k0_off2_eq k) 1 ?_]
    · rfl
    · have hy' : ¬ (y 1).val / 128 = k.val := hy
      show (y 1).val < 128 * k.val ∨ 128 * k.val + 128 ≤ (y 1).val
      omega

/-! ## The masked stores -/

theorem word_eq {a b : ℕ} (ha : a < 2 ^ 32) (hb : b < 2 ^ 32) : BitVec.ofNat 32 a = BitVec.ofNat 32 b ↔ a = b := by
  rw [← BitVec.toNat_inj, BitVec.toNat_ofNat, BitVec.toNat_ofNat, Nat.mod_eq_of_lt ha, Nat.mod_eq_of_lt hb]

theorem ofBool_eq_one (b : Bool) : BitVec.ofBool b = 1#1 ↔ b = true := by cases b <;> decide

theorem cmpi_eq_iff {a b : ℕ} (ha : a < 2 ^ 32) (hb : b < 2 ^ 32) :
    IntOp.cmpi .eq (BitVec.ofNat 32 a) (BitVec.ofNat 32 b) = 1 ↔ a = b := by
  rw [← word_eq ha hb]
  exact (ofBool_eq_one _).trans (by simp)

/-- The lane mask of trip `k` of the row scales, -/
theorem mask5 (k : Trip) (y : S128x64.Idx) :
    y ∈ IVec.on (k0_pay16 (iota .tc S128x128 32 [1] iota_S128x128_d1_w32) (Scalar.addi 0#32 (Scalar.muli (Scf.iv 0#32 1#32 k) 1#32)))
      ↔ (y 1).val = k.val := by
  have hk := (kf k).isLt
  have e : Scalar.addi 0#32 (Scalar.muli (Scf.iv 0#32 1#32 k.val) 1#32) = BitVec.ofNat 32 k.val := by
    have : ∀ k : Fin 64, Scalar.addi 0#32 (Scalar.muli (Scf.iv 0#32 1#32 k.val) 1#32) = BitVec.ofNat 32 k.val := by decide +kernel
    exact this (kf k)
  rw [e]
  have h1 : (y 1).val < 64 := (y 1).isLt
  have hy := eq_ix2 y
  simp only [IVec.on, Finset.mem_filter, Finset.mem_univ, true_and]
  have hk2 : k.val < 64 := hk
  pointwise [k0_pay16]
  exact cmpi_eq_iff (by omega) (by omega)

/-- The word that a block's row mask compares with. -/
def rowWord (arg0 : BitVec 32) : BitVec 32 :=
  let v219 : BitVec 32 := Scalar.select (Scalar.cmpi .eq 8#32 0#32) 1#32 8#32
  let v220 : BitVec 32 := Scalar.remsi arg0 v219
  Scalar.select (Scalar.andi (Scalar.xori (Scalar.cmpi .slt v220 0#32) (Scalar.cmpi .slt v219 0#32)) (Scalar.cmpi .ne v220 0#32))
    (Scalar.addi v220 v219) v220

theorem rowWord_eq : ∀ n : Fin 80, rowWord (BitVec.ofNat 32 n.val) = BitVec.ofNat 32 (n.val % 8) := by decide +kernel

/-- and the row mask of block `i` of the column scales. -/
theorem mask9 (i : grid0.Coords) (y : S8x128.Idx) :
    y ∈ IVec.on (k0_pay3 (k0_pay26 (BitVec.ofNat 32 (i 0).val))) ↔ (y 0).val = (i 0).val % 8 := by
  have h0 : (y 0).val < 8 := (y 0).isLt
  simp only [IVec.on, Finset.mem_filter, Finset.mem_univ, true_and]
  pointwise [k0_pay3, k0_pay26]
  show IntOp.cmpi .eq (BitVec.ofNat 32 (y 0).val) (rowWord (BitVec.ofNat 32 (i 0).val)) = 1 ↔ _
  rw [rowWord_eq (i 0)]
  exact cmpi_eq_iff (by omega) (by omega)

theorem k0_off4_eq : ∀ (i : grid0.Coords) (k : Fin k0_t1_loop.trips), k0_off4 i k = ![8 * ((i 0).val / 8), 128 * k.val] := by
  decide +kernel

theorem read_st5 (arg5 : Memref sig .tc .vmem S128x64 .f32) (G : BufTy.Contents (Elt F) arg5.view.ty) :
    arg5.view.read (Elt F) (iter (st5 arg1 arg2 X1 X2 (iota .tc S128x128 32 [1] iota_S128x128_d1_w32) arg5) G
        (Scf.trips k0_t1_loop.lb k0_t1_loop.ub k0_t1_loop.st))
      = rsB (arg1.view.read (Elt F) X1) (arg2.view.read (Elt F) X2) := by
  funext y
  have hemb : ∀ z : S128x64.Idx, (Rect.unit (s := S128x64) ![0, 0] S128x64.size inb_S128x64_S128x64_0_0).emb z = z := by
    intro z
    funext a
    apply Fin.ext
    match a with
    | 0 => show 0 + 1 * (z 0).val = (z 0).val; omega
    | 1 => show 0 + 1 * (z 1).val = (z 1).val; omega
  have h := iter_read (st5 arg1 arg2 X1 X2 (iota .tc S128x128 32 [1] iota_S128x128_d1_w32) arg5) G (arg5.view.read (Elt F)) (fun y => (y 1).val)
    (rsB (arg1.view.read (Elt F) X1) (arg2.view.read (Elt F) X2)) ?_ ?_ _ (le_refl _) y
  · have h1 : (y 1).val < 64 := (y 1).isLt
    rw [h, if_pos (by rw [trips_eq]; omega)]
  · intro k f _ y hy
    have hm := View.read_slice_write_emb (v := arg5.view) (Val := Elt F) (Rect.unit (s := S128x64) ![0, 0] S128x64.size inb_S128x64_S128x64_0_0) f
      (rsT (tile arg1 X1 k) (tile arg2 X2 k)) ((mask5 k y).2 hy)
    rw [hemb y] at hm
    refine hm.trans ?_
    unfold rsB
    rw [tile_eq, tile_eq, show (y 1) = kf k from Fin.ext hy]
  · intro k f y hy
    refine View.read_slice_write_of_not_mem (v := arg5.view) (Val := Elt F) _ f _ _ ?_
    intro hc
    obtain ⟨z, hz, e⟩ := Finset.mem_map.mp hc
    rw [hemb z] at e
    subst e
    exact hy ((mask5 k z).1 hz)

theorem read_st9 (i : grid0.Coords) (arg9 : Memref sig .tc .vmem S80x8192 .f32) (G : BufTy.Contents (Elt F) arg9.view.ty) :
    arg9.view.read (Elt F) (iter (st9 arg1 arg2 X1 X2 (BitVec.ofNat 32 (i 0).val) i arg9) G
        (Scf.trips k0_t1_loop.lb k0_t1_loop.ub k0_t1_loop.st))
      = csB (i 0).val (arg1.view.read (Elt F) X1) (arg2.view.read (Elt F) X2) (arg9.view.read (Elt F) G) := by
  funext y
  have hi : (i 0).val < 80 := (i 0).isLt
  have hemb0 : ∀ (k : Trip) (z : S8x128.Idx), ((Rect.unit (s := S80x8192) (k0_off4 i k) S8x128.size (k0_off4_inb i k)).emb z 0).val
      = 8 * ((i 0).val / 8) + (z 0).val := by
    intro k z
    show k0_off4 i k 0 + 1 * (z 0).val = _
    rw [k0_off4_eq i k, Nat.one_mul]; rfl
  have hemb1 : ∀ (k : Trip) (z : S8x128.Idx), ((Rect.unit (s := S80x8192) (k0_off4 i k) S8x128.size (k0_off4_inb i k)).emb z 1).val
      = 128 * k.val + (z 1).val := by
    intro k z
    show k0_off4 i k 1 + 1 * (z 1).val = _
    rw [k0_off4_eq i k, Nat.one_mul]; rfl
  have miss : ∀ (k : Trip) (f : BufTy.Contents (Elt F) arg9.view.ty) (y : S80x8192.Idx), ((y 1).val / 128 ≠ k.val ∨ (y 0).val ≠ (i 0).val) →
      arg9.view.read (Elt F) (st9 arg1 arg2 X1 X2 (BitVec.ofNat 32 (i 0).val) i arg9 k f) y = arg9.view.read (Elt F) f y := by
    intro k f y hy
    refine View.read_slice_write_of_not_mem (v := arg9.view) (Val := Elt F) _ f _ _ ?_
    intro hc
    obtain ⟨z, hz, e⟩ := Finset.mem_map.mp hc
    subst e
    have hz0 := (mask9 i z).1 hz
    have hz1 : (z 1).val < 128 := (z 1).isLt
    rw [hemb0, hemb1] at hy
    omega
  have h := iter_read (st9 arg1 arg2 X1 X2 (BitVec.ofNat 32 (i 0).val) i arg9) G (arg9.view.read (Elt F)) (fun y => (y 1).val / 128)
    (csB (i 0).val (arg1.view.read (Elt F) X1) (arg2.view.read (Elt F) X2) (arg9.view.read (Elt F) G)) ?_ ?_ _ (le_refl _) y
  · have h1 : (y 1).val < 8192 := (y 1).isLt
    rw [h, if_pos (by rw [trips_eq]; omega)]
  · intro k f hf y hy
    have hy' : (y 1).val / 128 = k.val := hy
    unfold csB
    by_cases h0 : (y 0).val = (i 0).val
    · rw [if_pos h0]
      have hm := View.read_slice_write_emb (v := arg9.view) (Val := Elt F) (Rect.unit (s := S80x8192) (k0_off4 i k) S8x128.size (k0_off4_inb i k)) f
        (cs8T (tile arg1 X1 k) (tile arg2 X2 k)) (x := ix2 ⟨(i 0).val % 8, by omega⟩ (lane (y 1))) ((mask9 i _).2 rfl)
      rw [show (Rect.unit (s := S80x8192) (k0_off4 i k) S8x128.size (k0_off4_inb i k)).emb (ix2 ⟨(i 0).val % 8, by omega⟩ (lane (y 1))) = y from by
        funext a
        apply Fin.ext
        match a with
        | 0 => rw [hemb0]; show 8 * ((i 0).val / 8) + (i 0).val % 8 = (y 0).val; omega
        | 1 => rw [hemb1]; show 128 * k.val + (y 1).val % 128 = (y 1).val; omega] at hm
      refine hm.trans ?_
      unfold csR
      rw [tile_eq, tile_eq, grp_of hy']
      unfold cs8T
      pointwise [k0_pay2, k0_pay25]
    · rw [if_neg h0, miss k f y (.inr h0)]
      exact hf y hy
  · intro k f y hy
    exact miss k f y (.inl hy)

end

end Cert.Proof.Run
-- ==== Proof.Loop2.lean ====
/- The kernel's last loop, which writes the gathered column scales out transposed, one column group at a time: its invariant,
   and what the buffer holds after it. -/
module

public import proofs.«01_k».proof.Proof.Blocks

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

abbrev Trip2 := Fin (Scf.trips k0_t2_loop.lb k0_t2_loop.ub k0_t2_loop.st)

theorem off5_inb (k : Trip2) : ∀ a, (k0_off5 k) a + S80x128.size a ≤ S80x8192.size a := by
  have : ∀ k : Trip2, ∀ a, (k0_off5 k) a + S80x128.size a ≤ S80x8192.size a := by decide +kernel
  exact this k
theorem off6_inb (k : Trip2) : ∀ a, (k0_off6 k) a + S128x80.size a ≤ S8192x80.size a := by
  have : ∀ k : Trip2, ∀ a, (k0_off6 k) a + S128x80.size a ≤ S8192x80.size a := by decide +kernel
  exact this k

/-- One trip: the column group of the scales, transposed, into its rows. -/
def st7 (arg9 : Memref sig .tc .vmem S80x8192 .f32) (X9 : BufTy.Contents (Elt F) arg9.view.ty)
    (arg7 : Memref sig .tc .vmem S8192x80 .f32) (k : Trip2) (f : BufTy.Contents (Elt F) arg7.view.ty) : BufTy.Contents (Elt F) arg7.view.ty :=
  arg7.view.writes (Elt F) f [⟨Rect.unit (s := S8192x80) (k0_off6 k) S128x80.size (off6_inb k),
    k0_pay5 (View.readAt (Elt F) arg9.view (Rect.unit (s := S80x8192) (k0_off5 k) S80x128.size (off5_inb k)).toLoadRect X9)⟩]

set_option warn.classDefReducibility false in
/-- The loop over the 64 column groups of the scales. -/
@[sl_loop] def loopInv_t2 (c : Dev nD) (E : Set ℕ) (i : grid0.Coords)
    (arg1 : Memref sig .tc .vmem S128x8192 .bf16) (harg1 : arg1.IsWhole) (arg2 : Memref sig .tc .vmem S128x8192 .bf16) (harg2 : arg2.IsWhole)
    (arg3 : Memref sig .tc .vmem S1x8192 .f32) (harg3 : arg3.IsWhole) (arg4 : Memref sig .tc .vmem S128x8192 .fp8e5m2) (harg4 : arg4.IsWhole)
    (arg5 : Memref sig .tc .vmem S128x64 .f32) (harg5 : arg5.IsWhole) (arg6 : Memref sig .tc .vmem S8192x128 .fp8e5m2) (harg6 : arg6.IsWhole)
    (arg7 : Memref sig .tc .vmem S8192x80 .f32) (harg7 : arg7.IsWhole) (arg8 : Memref sig .tc .vmem S8x8192 .f32) (harg8 : arg8.IsWhole)
    (arg9 : Memref sig .tc .vmem S80x8192 .f32) (harg9 : arg9.IsWhole) (k0_h2 : k0_cond2 i = 1#1)
    (X9 : BufTy.Contents (Elt F) arg9.view.ty) (G7 : BufTy.Contents (Elt F) arg7.view.ty) :
    LoopInvTy_k0_t2 (F := F) Unit ℕ (UR sig nD τ) ℕ Variants.none c none E i arg1 harg1 arg2 harg2 arg3 harg3 arg4 harg4 arg5 harg5 arg6 harg6 arg7 harg7 arg8 harg8 arg9 harg9 k0_h2 where
  inv k _ := iprop((arg9.view.loc (c : Thread nD τ) ↦[arg9.view.set]{fullShare} X9)
      ∗ (∃ f, (arg7.view.loc (c : Thread nD τ) ↦[arg7.view.set]{fullShare} f) ∗ ⌜f = iterF (st7 arg9 X9 arg7) G7 k⌝))
  step k acc := by
    have hk : k.val < 64 := Nat.lt_of_lt_of_le k.isLt k0_t2_abs.2.1
    unfold k0_t2_body
    iintro ⟨H9, ⟨%f7, H7, %h7⟩⟩
    rw [iterF_eq] at h7
    sl_exec
    sl_step
    simp only [iterF]
    rw [iter_succ (st7 arg9 X9 arg7) G7 k, ← h7]
    isplitl [H9]; · iexact H9
    iexists _; isplitl [H7]; · iexact H7
    ipureintro; dsimp only [st7] <;> rfl

/-- The scales transposed. -/
def csT8 (x : Vec F S80x8192 .f32) : Vec F S8192x80 .f32 := fun y => x (ix2 (y 1) (y 0))

theorem trips2_eq : Scf.trips k0_t2_loop.lb k0_t2_loop.ub k0_t2_loop.st = 64 := by decide +kernel

theorem read_st7 (arg9 : Memref sig .tc .vmem S80x8192 .f32) (X9 : BufTy.Contents (Elt F) arg9.view.ty)
    (arg7 : Memref sig .tc .vmem S8192x80 .f32) (G : BufTy.Contents (Elt F) arg7.view.ty) :
    arg7.view.read (Elt F) (iter (st7 arg9 X9 arg7) G (Scf.trips k0_t2_loop.lb k0_t2_loop.ub k0_t2_loop.st))
      = csT8 (arg9.view.read (Elt F) X9) := by
  funext y
  have h := iter_read (st7 arg9 X9 arg7) G (arg7.view.read (Elt F)) (fun y => (y 0).val / 128)
    (csT8 (arg9.view.read (Elt F) X9)) ?_ ?_ _ (le_refl _) y
  · have h1 : (y 0).val < 8192 := (y 0).isLt
    rw [h, if_pos (by rw [trips2_eq]; omega)]
  · intro k f _ y hy
    unfold st7
    have hy' : (y 0).val / 128 = k.val := hy
    rw [View.read_writes_cons_unit_of_mem arg7.view f (off6_inb k) _ [] y (ix2 (lane (y 0)) (y 1)) (k0_off6_eq k) ?_]
    · rw [View.readAt_unit arg9.view X9 (off5_inb k) (k0_off5_eq k) (by rw [← k0_off5_eq k]; exact off5_inb k)]
      pointwise [k0_pay5]
      unfold csT8 VecWindow.window
      congr 1
      funext a
      apply Fin.ext
      match a with
      | 0 => show 0 + 1 * (y 1).val = (y 1).val; omega
      | 1 => show 128 * k.val + 1 * ((y 0).val % 128) = (y 0).val; omega
    · intro a
      match a with
      | 0 => show (y 0).val = 128 * k.val + (y 0).val % 128; omega
      | 1 => exact (Nat.zero_add _).symm
  · intro k f y hy
    unfold st7
    rw [View.read_writes_cons_unit_of_not_mem arg7.view f (off6_inb k) _ [] y (k0_off6_eq k) 0 ?_]
    · rfl
    · have hy' : ¬ (y 0).val / 128 = k.val := hy
      show (y 0).val < 128 * k.val ∨ 128 * k.val + 128 ≤ (y 0).val
      omega

end Cert.Proof.Run
-- ==== Proof.Body.lean ====
/- One grid point of the kernel: what its body leaves in each buffer. -/
module

public import proofs.«01_k».proof.Proof.Loop2

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- The body's two branch conditions, from the grid point. -/
abbrev cond0 (i : grid0.Coords) : Prop :=
  Scalar.cmpi .ne (Scalar.extui (Scalar.cmpi .eq (BitVec.ofNat 32 (i 0).val) 0#32)) 0#32 = 1#1
abbrev cond1 (i : grid0.Coords) : Prop := k0_cond2 i = 1#1

/-- The running sums that a point starts from: cleared at the first. -/
def start (i : grid0.Coords) (d : Vec F S8x8192 .f32) : Vec F S8x8192 .f32 := if cond0 i then k0_pay1 else d

theorem hz2 : (![0, 0] : Fin 2 → ℕ) = fun _ => 0 := funext fun a => by fin_cases a <;> rfl

/-- A store over a whole buffer leaves its payload there. -/
theorem read_writes_whole {s : Shape} {e : EltTy} (v : View sig .tc .vmem s e) (f : v.ty.Contents (Elt F)) {off : Fin s.rank → ℕ}
    (h0 : off = fun _ => 0) (inb : ∀ a, off a + s.size a ≤ s.size a) (w : (Rect.unit off s.size inb).shape.Idx → Elt F e) :
    v.read (Elt F) (v.writes (Elt F) f [⟨Rect.unit off s.size inb, w⟩]) = w :=
  funext fun y => View.read_writes_cons_unit_of_mem v f inb w [] y y h0 fun _ => (Nat.zero_add _).symm

section Left

variable {arg1 : Memref sig .tc .vmem S128x8192 .bf16} {arg2 : Memref sig .tc .vmem S128x8192 .bf16}
    {X1 : BufTy.Contents (Elt F) arg1.view.ty} {X2 : BufTy.Contents (Elt F) arg2.view.ty}

/-! What the buffers read after the loops, each loop's result as the body's run names it. -/

theorem left4 (arg4 : Memref sig .tc .vmem S128x8192 .fp8e5m2) (G : BufTy.Contents (Elt F) arg4.view.ty) :
    arg4.view.read (Elt F) (iterF (st4 arg1 arg2 X1 X2 arg4) G (Scf.trips k0_t1_loop.lb k0_t1_loop.ub k0_t1_loop.st))
      = rcB (arg1.view.read (Elt F) X1) (arg2.view.read (Elt F) X2) := by rw [iterF_eq, read_st4]
theorem left5 (arg5 : Memref sig .tc .vmem S128x64 .f32) (G : BufTy.Contents (Elt F) arg5.view.ty) :
    arg5.view.read (Elt F) (iterF (st5 arg1 arg2 X1 X2 (iota .tc S128x128 32 [1] iota_S128x128_d1_w32) arg5) G
        (Scf.trips k0_t1_loop.lb k0_t1_loop.ub k0_t1_loop.st))
      = rsB (arg1.view.read (Elt F) X1) (arg2.view.read (Elt F) X2) := by rw [iterF_eq, read_st5]
theorem left6 (arg6 : Memref sig .tc .vmem S8192x128 .fp8e5m2) (G : BufTy.Contents (Elt F) arg6.view.ty) :
    arg6.view.read (Elt F) (iterF (st6 arg1 arg2 X1 X2 arg6) G (Scf.trips k0_t1_loop.lb k0_t1_loop.ub k0_t1_loop.st))
      = ccB (arg1.view.read (Elt F) X1) (arg2.view.read (Elt F) X2) := by rw [iterF_eq, read_st6]
theorem left8 (arg8 : Memref sig .tc .vmem S8x8192 .f32) (G : BufTy.Contents (Elt F) arg8.view.ty) :
    arg8.view.read (Elt F) (iterF (st8 arg1 arg2 X1 X2 arg8) G (Scf.trips k0_t1_loop.lb k0_t1_loop.ub k0_t1_loop.st))
      = sumB (arg1.view.read (Elt F) X1) (arg2.view.read (Elt F) X2) (arg8.view.read (Elt F) G) := by rw [iterF_eq, read_st8]
theorem left9 (i : grid0.Coords) (arg9 : Memref sig .tc .vmem S80x8192 .f32) (G : BufTy.Contents (Elt F) arg9.view.ty) :
    arg9.view.read (Elt F) (iterF (st9 arg1 arg2 X1 X2 (BitVec.ofNat 32 (i 0).val) i arg9) G
        (Scf.trips k0_t1_loop.lb k0_t1_loop.ub k0_t1_loop.st))
      = csB (i 0).val (arg1.view.read (Elt F) X1) (arg2.view.read (Elt F) X2) (arg9.view.read (Elt F) G) := by rw [iterF_eq, read_st9]
theorem left7 (arg9 : Memref sig .tc .vmem S80x8192 .f32) (X9 : BufTy.Contents (Elt F) arg9.view.ty)
    (arg7 : Memref sig .tc .vmem S8192x80 .f32) (G : BufTy.Contents (Elt F) arg7.view.ty) :
    arg7.view.read (Elt F) (iterF (st7 arg9 X9 arg7) G (Scf.trips k0_t2_loop.lb k0_t2_loop.ub k0_t2_loop.st))
      = csT8 (arg9.view.read (Elt F) X9) := by rw [iterF_eq, read_st7]

end Left

set_option maxHeartbeats 1000000 in
/-- The body at any grid point. -/
theorem body_at (c : Dev nD) (E : Set ℕ) (i : grid0.Coords)
    (arg1 : Memref sig .tc .vmem S128x8192 .bf16) (harg1 : arg1.IsWhole) (arg2 : Memref sig .tc .vmem S128x8192 .bf16) (harg2 : arg2.IsWhole)
    (arg3 : Memref sig .tc .vmem S1x8192 .f32) (harg3 : arg3.IsWhole) (arg4 : Memref sig .tc .vmem S128x8192 .fp8e5m2) (harg4 : arg4.IsWhole)
    (arg5 : Memref sig .tc .vmem S128x64 .f32) (harg5 : arg5.IsWhole) (arg6 : Memref sig .tc .vmem S8192x128 .fp8e5m2) (harg6 : arg6.IsWhole)
    (arg7 : Memref sig .tc .vmem S8192x80 .f32) (harg7 : arg7.IsWhole) (arg8 : Memref sig .tc .vmem S8x8192 .f32) (harg8 : arg8.IsWhole)
    (arg9 : Memref sig .tc .vmem S80x8192 .f32) (harg9 : arg9.IsWhole)
    (x0 : Vec F S128x8192 .bf16) (x1 : Vec F S128x8192 .bf16) (d2 : Vec F S1x8192 .f32) (d6 : Vec F S8192x80 .f32)
    (d7 : Vec F S8x8192 .f32) (d8 : Vec F S80x8192 .f32) (K : PUnit → sProp 𝕄) :
    iprop(owns (c : Thread nD τ) arg1 fullShare x0 ∗ owns (c : Thread nD τ) arg2 fullShare x1 ∗ owns (c : Thread nD τ) arg3 fullShare d2 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare d6 ∗ owns (c : Thread nD τ) arg8 fullShare d7 ∗ owns (c : Thread nD τ) arg9 fullShare d8
      ∗ (iprop(owns (c : Thread nD τ) arg1 fullShare x0 ∗ owns (c : Thread nD τ) arg2 fullShare x1
          ∗ owns (c : Thread nD τ) arg3 fullShare (if cond1 i then k0_pay4 (sumB x0 x1 (start i d7)) else d2)
          ∗ owns (c : Thread nD τ) arg4 fullShare (rcB x0 x1) ∗ owns (c : Thread nD τ) arg5 fullShare (rsB x0 x1) ∗ owns (c : Thread nD τ) arg6 fullShare (ccB x0 x1)
          ∗ owns (c : Thread nD τ) arg7 fullShare (if cond1 i then csT8 (csB (i 0).val x0 x1 d8) else d6)
          ∗ owns (c : Thread nD τ) arg8 fullShare (sumB x0 x1 (start i d7)) ∗ owns (c : Thread nD τ) arg9 fullShare (csB (i 0).val x0 x1 d8)) -∗ K ⟨⟩))
    ⊢ wp frame (wpE (defs₀ (F := F)) Variants.none c none) E (cc0_gelu_bwd_quant i arg1 harg1 arg2 harg2 arg3 harg3 arg4 harg4 arg5 harg5 arg6 harg6 arg7 harg7 arg8 harg8 arg9 harg9) K := by
  simp only [cc0_gelu_bwd_quant_eq_skeleton]; unfold cc0_gelu_bwd_quant_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, ⟨%f8, %hf8, H8⟩, Hk⟩
  subst hf0 hf1 hf2 hf6 hf7 hf8
  have hex : cond0 i → ¬cond1 i := by
    have : ∀ i : grid0.Coords, cond0 i → ¬cond1 i := by decide +kernel
    exact this i
  by_cases hc0 : cond0 i
  · have hc1 := hex hc0
    sl_exec (disch := first | sl_exact hc0 | sl_exact hc1)
    sl_step
    iapply Hk
    isplitl [H0]
    · iexists _; isplitr; · ipureintro; rfl
      iexact H0
    isplitl [H1]
    · iexists _; isplitr; · ipureintro; rfl
      iexact H1
    isplitl [H2]
    · iexists _; isplitr; swap; · iexact H2
      ipureintro; rw [if_neg hc1]
    isplitl [H3]
    · iexists _; isplitr; swap; · iexact H3
      ipureintro; exact left4 arg4 f3
    isplitl [H4]
    · iexists _; isplitr; swap; · iexact H4
      ipureintro; exact left5 arg5 f4
    isplitl [H5]
    · iexists _; isplitr; swap; · iexact H5
      ipureintro; exact left6 arg6 f5
    isplitl [H6]
    · iexists _; isplitr; swap; · iexact H6
      ipureintro; rw [if_neg hc1]
    isplitl [H7]
    · iexists _; isplitr; swap; · iexact H7
      ipureintro; rw [start, if_pos hc0, left8]; unfold body_at.sl.H7_1; rw [read_writes_whole _ _ hz2]
    iexists _; isplitr; swap; · iexact H8
    ipureintro; exact left9 i arg9 f8
  by_cases hc1 : cond1 i
  · sl_exec (disch := first | sl_exact hc0 | sl_exact hc1)
    sl_step
    iapply Hk
    isplitl [H0]
    · iexists _; isplitr; · ipureintro; rfl
      iexact H0
    isplitl [H1]
    · iexists _; isplitr; · ipureintro; rfl
      iexact H1
    isplitl [H2]
    · iexists _; isplitr; swap; · iexact H2
      ipureintro; rw [if_pos hc1]; unfold body_at.sl.H2_1; rw [read_writes_whole _ _ hz2]; exact congrArg k0_pay4 (by unfold body_at.sl.v8; rw [View.readAt_full]; rw [start, if_neg hc0, left8])
    isplitl [H3]
    · iexists _; isplitr; swap; · iexact H3
      ipureintro; exact left4 arg4 f3
    isplitl [H4]
    · iexists _; isplitr; swap; · iexact H4
      ipureintro; exact left5 arg5 f4
    isplitl [H5]
    · iexists _; isplitr; swap; · iexact H5
      ipureintro; exact left6 arg6 f5
    isplitl [H6]
    · iexists _; isplitr; swap; · iexact H6
      ipureintro; rw [if_pos hc1, left7, left9]
    isplitl [H7]
    · iexists _; isplitr; swap; · iexact H7
      ipureintro; rw [start, if_neg hc0, left8]
    iexists _; isplitr; swap; · iexact H8
    ipureintro; exact left9 i arg9 f8
  · sl_exec (disch := first | sl_exact hc0 | sl_exact hc1)
    sl_step
    iapply Hk
    isplitl [H0]
    · iexists _; isplitr; · ipureintro; rfl
      iexact H0
    isplitl [H1]
    · iexists _; isplitr; · ipureintro; rfl
      iexact H1
    isplitl [H2]
    · iexists _; isplitr; swap; · iexact H2
      ipureintro; rw [if_neg hc1]
    isplitl [H3]
    · iexists _; isplitr; swap; · iexact H3
      ipureintro; exact left4 arg4 f3
    isplitl [H4]
    · iexists _; isplitr; swap; · iexact H4
      ipureintro; exact left5 arg5 f4
    isplitl [H5]
    · iexists _; isplitr; swap; · iexact H5
      ipureintro; exact left6 arg6 f5
    isplitl [H6]
    · iexists _; isplitr; swap; · iexact H6
      ipureintro; rw [if_neg hc1]
    isplitl [H7]
    · iexists _; isplitr; swap; · iexact H7
      ipureintro; rw [start, if_neg hc0, left8]
    iexists _; isplitr; swap; · iexact H8
    ipureintro; exact left9 i arg9 f8

end Cert.Proof.Run
-- ==== Proof.Run.lean ====
/- The kernel's run: what the two scratch buffers hold between grid points, what each point leaves in the output windows'
   buffers, and the launch with every output array named. -/
module

public import proofs.«01_k».proof.Proof.Body

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The grid -/

theorem N_eq : cfg0.N = 80 := N_0

theorem coord_eq (t : Fin cfg0.N) : (grid0.coords t 0).val = t.val :=
  (fun t => by
    have ht : t.val < 80 := Nat.lt_of_lt_of_eq t.isLt N_0
    have e0 : (grid0.coords t 0).val = t.val / 1 % 80 := Pipeline.Grid.coords_val t 0 (by decide) rfl
    omega : ∀ t : Fin grid0.N, (grid0.coords t 0).val = t.val) t

theorem cond0_iff (t : Fin cfg0.N) : cond0 (grid0.coords t) ↔ t.val = 0 := by
  have ht : t.val < 80 := Nat.lt_of_lt_of_eq t.isLt N_0
  simp only [cond0, coord_eq]
  word_cmp
theorem cond1_iff (t : Fin cfg0.N) : cond1 (grid0.coords t) ↔ t.val = 79 := by
  have ht : t.val < 80 := Nat.lt_of_lt_of_eq t.isLt N_0
  simp only [cond1, k0_cond2, coord_eq]
  word_cmp

/-! ## The scratch between points -/

/-- The two input blocks of a point. -/
abbrev xb (c : Dev nD) (t : Fin cfg0.N) : Vec F S128x8192 .bf16 := iblk m c 0 t
abbrev gb (c : Dev nD) (t : Fin cfg0.N) : Vec F S128x8192 .bf16 := iblk m c 1 t

/-- The running sums after point `n`. -/
def sumAt (c : Dev nD) : (n : ℕ) → n < cfg0.N → Vec F S8x8192 .f32
  | 0, h => sumB (xb m c ⟨0, h⟩) (gb m c ⟨0, h⟩) k0_pay1
  | n + 1, h => sumB (xb m c ⟨n + 1, h⟩) (gb m c ⟨n + 1, h⟩) (sumAt c n (Nat.lt_of_succ_lt h))

/-- The rows of column scales gathered after point `n`. -/
def Rows (c : Dev nD) (n : ℕ) (x : Vec F S80x8192 .f32) : Prop :=
  ∀ t : Fin cfg0.N, t.val ≤ n → ∀ y : S80x8192.Idx, (y 0).val = t.val → x y = csR (xb m c t) (gb m c t) (y 1)

/-- All column scales, transposed. -/
def csAll (c : Dev nD) : Vec F S8192x80 .f32 :=
  fun y => csR (xb m c ⟨(y 1).val, lt_of_lt_of_eq (y 1).isLt N_eq.symm⟩) (gb m c ⟨(y 1).val, lt_of_lt_of_eq (y 1).isLt N_eq.symm⟩) (y 0)

theorem rows_zero (c : Dev nD) (t : Fin cfg0.N) (h : t.val = 0) (x : Vec F S80x8192 .f32) :
    Rows m c t.val (csB (grid0.coords t 0).val (xb m c t) (gb m c t) x) := by
  intro t' ht' y hy
  have : t' = t := Fin.ext (by omega)
  subst this
  unfold csB; rw [coord_eq, if_pos hy]

theorem rows_succ (c : Dev nD) (n : ℕ) (hn : n + 1 < cfg0.N) (x : Vec F S80x8192 .f32) (hx : Rows m c n x) :
    Rows m c (n + 1) (csB (grid0.coords ⟨n + 1, hn⟩ 0).val (xb m c ⟨n + 1, hn⟩) (gb m c ⟨n + 1, hn⟩) x) := by
  intro t' ht' y hy
  unfold csB; rw [coord_eq]
  by_cases h : (y 0).val = n + 1
  · have : t' = ⟨n + 1, hn⟩ := Fin.ext (by show t'.val = n + 1; omega)
    subst this
    rw [if_pos h]
  · rw [if_neg h]; exact hx t' (by omega) y hy

theorem rows_all (c : Dev nD) (x : Vec F S80x8192 .f32) (hx : Rows m c 79 x) : csT8 x = csAll m c := by
  funext y
  exact hx ⟨(y 1).val, lt_of_lt_of_eq (y 1).isLt N_eq.symm⟩ (by have : (y 1).val < 80 := (y 1).isLt; show (y 1).val ≤ 79; omega) _ rfl

/-- The two scratch operands. -/
abbrev scM0 : Memref sig .tc .vmem S8x8192 .f32 := Memref.whole cc0_scratch0
abbrev scM1 : Memref sig .tc .vmem S80x8192 .f32 := Memref.whole cc0_scratch1

theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The region's invariant: anything in the scratch at first, then the sums and the gathered rows so far. -/
def PhiS (c : Dev nD) : (n : ℕ) → n ≤ cfg0.N → sProp 𝕄
  | 0, _ => Pipeline.ΦA spec0 c
  | n + 1, hn => iprop(iprop(owns (c : Thread nD τ) scM0 fullShare (sumAt m c n hn)
      ∗ (∃ x, iprop(⌜Rows m c n x⌝ ∗ owns (c : Thread nD τ) scM1 fullShare x))) ∗ (∃ r, prngReg c r))

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay4 (sumAt m c t.val t.isLt)
    | ⟨3, _⟩ => rcB (xb m c t) (gb m c t)
    | ⟨4, _⟩ => rsB (xb m c t) (gb m c t)
    | ⟨5, _⟩ => ccB (xb m c t) (gb m c t)
    | ⟨6, _⟩ => csAll m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = k0_pay4 (sumAt m c t.val t.isLt) := by dsimp only [dats]
theorem after_3 (c : Dev nD) (t : Fin cfg0.N) : (dats m 0 c).after 3 t = rcB (xb m c t) (gb m c t) := by dsimp only [dats]
theorem after_4 (c : Dev nD) (t : Fin cfg0.N) : (dats m 0 c).after 4 t = rsB (xb m c t) (gb m c t) := by dsimp only [dats]
theorem after_5 (c : Dev nD) (t : Fin cfg0.N) : (dats m 0 c).after 5 t = ccB (xb m c t) (gb m c t) := by dsimp only [dats]
theorem after_6 (c : Dev nD) (t : Fin cfg0.N) : (dats m 0 c).after 6 t = csAll m c := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-! ## One point -/

theorem idle2 : ∀ t : Fin cfg0.N, ¬cond1 (grid0.coords t) → cfg0.idle 2 (grid0.coords t) = true := by decide +kernel
theorem live2 : ∀ t : Fin cfg0.N, cond1 (grid0.coords t) → cfg0.idle 2 (grid0.coords t) = false := by decide +kernel
theorem idle6 : ∀ t : Fin cfg0.N, ¬cond1 (grid0.coords t) → cfg0.idle 6 (grid0.coords t) = true := by decide +kernel
theorem live6 : ∀ t : Fin cfg0.N, cond1 (grid0.coords t) → cfg0.idle 6 (grid0.coords t) = false := by decide +kernel
theorem noFlush2 : ∀ t : Fin cfg0.N, ¬cond1 (grid0.coords t) → (cfg0.win 2).flush t = false := by decide +kernel
theorem noFlush6 : ∀ t : Fin cfg0.N, ¬cond1 (grid0.coords t) → (cfg0.win 6).flush t = false := by decide +kernel

/-- The two windows stored at the last point alone. -/
theorem leaves2 (c : Dev nD) (t : Fin cfg0.N) (d) :
    owns (c : Thread nD τ) (st0_2 t) fullShare (if cond1 (grid0.coords t) then k0_pay4 (sumAt m c t.val t.isLt) else (dats m 0 c).before 2 t d)
      ⊢ ((dats m 0 c).leavesExact 2 t : sProp 𝕄) := by
  by_cases h : cond1 (grid0.coords t)
  · rw [if_pos h, show (dats m 0 c).leavesExact 2 t = owns (c : Thread nD τ) (st0_2 t) fullShare ((dats m 0 c).after 2 t) from by
      unfold Dat.leavesExact; rw [live2 t h], after_2]
  · rw [if_neg h, Dat.leavesExact_idle (dats m 0 c) 2 t (idle2 t h) (noFlush2 t h)]
    iintro H
    iexists _; iexact H
theorem leaves6 (c : Dev nD) (t : Fin cfg0.N) (d) (x : Vec F S8192x80 .f32) (hx : cond1 (grid0.coords t) → x = csAll m c) :
    owns (c : Thread nD τ) (st0_6 t) fullShare (if cond1 (grid0.coords t) then x else (dats m 0 c).before 6 t d)
      ⊢ ((dats m 0 c).leavesExact 6 t : sProp 𝕄) := by
  by_cases h : cond1 (grid0.coords t)
  · rw [if_pos h, hx h, show (dats m 0 c).leavesExact 6 t = owns (c : Thread nD τ) (st0_6 t) fullShare ((dats m 0 c).after 6 t) from by
      unfold Dat.leavesExact; rw [live6 t h], after_6]
  · rw [if_neg h, Dat.leavesExact_idle (dats m 0 c) 6 t (idle6 t h) (noFlush6 t h)]
    iintro H
    iexists _; iexact H

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- What the invariant hands the body: the sums to start from, and the rows so far. -/
theorem phi_in (c : Dev nD) (t : Fin cfg0.N) :
    (dats m 0 c).Φ t.castSucc ⊢ iprop(∃ d7, ∃ d8, iprop(⌜sumB (xb m c t) (gb m c t) (start (grid0.coords t) d7) = sumAt m c t.val t.isLt
        ∧ Rows m c t.val (csB (grid0.coords t 0).val (xb m c t) (gb m c t) d8)⌝
      ∗ owns (c : Thread nD τ) scM0 fullShare d7 ∗ owns (c : Thread nD τ) scM1 fullShare d8 ∗ (∃ r, prngReg c r))) := by
  rw [show (dats m 0 c).Φ t.castSucc = PhiS m c t.val (Nat.le_of_lt t.isLt) from rfl]
  obtain ⟨n, hn⟩ := t
  cases n with
  | zero =>
    show Pipeline.ΦA spec0 c ⊢ _
    rw [PhiA_eq]
    iintro ⟨⟨⟨%d7, H7⟩, ⟨%d8, H8⟩⟩, Hg⟩
    iexists d7, d8
    isplitr
    · ipureintro
      refine ⟨?_, rows_zero m c ⟨0, hn⟩ rfl d8⟩
      rw [start, if_pos ((cond0_iff ⟨0, hn⟩).mpr rfl)]; rfl
    isplitl [H7]; · iexact H7
    isplitl [H8]; · iexact H8
    iexact Hg
  | succ n =>
    show iprop(iprop(owns (c : Thread nD τ) scM0 fullShare (sumAt m c n (Nat.lt_of_succ_lt hn))
      ∗ (∃ x, iprop(⌜Rows m c n x⌝ ∗ owns (c : Thread nD τ) scM1 fullShare x))) ∗ (∃ r, prngReg c r)) ⊢ _
    iintro ⟨⟨H7, ⟨%d8, %hd8, H8⟩⟩, Hg⟩
    iexists _, d8
    isplitr
    swap
    · isplitl [H7]; · iexact H7
      isplitl [H8]; · iexact H8
      iexact Hg
    · ipureintro
      refine ⟨?_, rows_succ m c n hn d8 hd8⟩
      rw [start, if_neg (fun h => by have := (cond0_iff ⟨n + 1, hn⟩).mp h; simp at this)]; rfl

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl,
    show (dats m 0 c).Φ t.succ = iprop(iprop(owns (c : Thread nD τ) scM0 fullShare (sumAt m c t.val t.isLt)
      ∗ (∃ x, iprop(⌜Rows m c t.val x⌝ ∗ owns (c : Thread nD τ) scM1 fullShare x))) ∗ (∃ r, prngReg c r)) from rfl,
    show (dats m 0 c).leavesExact 0 t = owns (c : Thread nD τ) (st0_0 t) fullShare ((dats m 0 c).after 0 t) from by
      unfold Dat.leavesExact; rw [show cfg0.idle 0 (grid0.coords t) = false from rfl],
    show (dats m 0 c).leavesExact 1 t = owns (c : Thread nD τ) (st0_1 t) fullShare ((dats m 0 c).after 1 t) from by
      unfold Dat.leavesExact; rw [show cfg0.idle 1 (grid0.coords t) = false from rfl],
    show (dats m 0 c).leavesExact 3 t = owns (c : Thread nD τ) (st0_3 t) fullShare ((dats m 0 c).after 3 t) from by
      unfold Dat.leavesExact; rw [show cfg0.idle 3 (grid0.coords t) = false from rfl],
    show (dats m 0 c).leavesExact 4 t = owns (c : Thread nD τ) (st0_4 t) fullShare ((dats m 0 c).after 4 t) from by
      unfold Dat.leavesExact; rw [show cfg0.idle 4 (grid0.coords t) = false from rfl],
    show (dats m 0 c).leavesExact 5 t = owns (c : Thread nD τ) (st0_5 t) fullShare ((dats m 0 c).after 5 t) from by
      unfold Dat.leavesExact; rw [show cfg0.idle 5 (grid0.coords t) = false from rfl],
    after_0, after_1, after_3, after_4, after_5]
  iintro ⟨HP, Ho, ⟨%d0, H0⟩, ⟨%d1, H1⟩, ⟨%d2, H2⟩, ⟨%d3, H3⟩, ⟨%d4, H4⟩, ⟨%d5, H5⟩, ⟨%d6, H6⟩⟩
  ihave HQ := (phi_in m c t) $$ HP
  icases HQ with ⟨%d7, %d8, %hd, HS0, HS1, Hg⟩
  iapply (body_at c Set.univ (grid0.coords t) _ _ _ _ _ _ _ _ _ _ _ _ _ _ scM0 (Memref.isWhole_whole _) scM1 (Memref.isWhole_whole _) (xb m c t) (gb m c t) _ _ d7 d8 _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexact H6
  isplitl [HS0]; · iexact HS0
  isplitl [HS1]; · iexact HS1
  rw [hd.1]
  iintro ⟨H0, H1, H2, H3, H4, H5, H6, HS0, HS1⟩
  isplitl [HS0 HS1 Hg]
  · isplitl [HS0 HS1]
    · isplitl [HS0]; · iexact HS0
      iexists _
      isplitr; swap; · iexact HS1
      ipureintro; exact hd.2
    iexact Hg
  isplitl [Ho]; · iexact Ho
  isplitl [H0]; · iexact H0
  isplitl [H1]; · iexact H1
  isplitl [H2]; · iapply (leaves2 m c t d2); iexact H2
  isplitl [H3]; · iexact H3
  isplitl [H4]; · iexact H4
  isplitl [H5]; · iexact H5
  iapply (leaves6 m c t d6 _ ?_); swap; · iexact H6
  intro h
  have h79 := (cond1_iff t).mp h
  exact rows_all m c _ (h79 ▸ hd.2)

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

/-- After the last point the scratch's contents are forgotten. -/
theorem hout (c : Dev nD) : (dats m 0 c).Φ (Fin.last cfg0.N) ⊢ Pipeline.ΦA spec0 c := by
  rw [show (dats m 0 c).Φ (Fin.last cfg0.N) = iprop(iprop(owns (c : Thread nD τ) scM0 fullShare (sumAt m c 79 (by rw [N_eq]; decide))
      ∗ (∃ x, iprop(⌜Rows m c 79 x⌝ ∗ owns (c : Thread nD τ) scM1 fullShare x))) ∗ (∃ r, prngReg c r)) from rfl, PhiA_eq]
  iintro ⟨⟨HS0, ⟨%x, -, HS1⟩⟩, Hg⟩
  isplitl [HS0 HS1]
  · isplitl [HS0]
    · iexists _; iexact HS0
    iexists _; iexact HS1
  iexact Hg

set_option backward.isDefEq.respectTransparency.types false in
/-- The launch, with every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The launch. -/
theorem run_main : θ_run defs (onTc (τ := τ) (main (F := F))) (s₀ m ρ) (Pipeline.FramePost cfgs (dats m) 0 (V m)) :=
  (θ_run defs _ _).mono (fun _ h => h.1) (run_main_quiescent m ρ)

end Cert.Proof.Run

end
-- ==== Proof.Arrays.lean ====
/- The kernel's five output arrays after the run, entry by entry, from its two argument arrays. -/
module

public import proofs.«01_k».proof.Proof.Run

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F] [Named F]
variable (m : (ℓ : Loc nD τ sig) → Buf (Elt F) ℓ) (ρ : Dev nD → PrngReg)

/-- The point whose block holds row `r`, and the row's place there. -/
def pt (r : Fin 10240) : Fin cfg0.N := ⟨r.val / 128, lt_of_lt_of_eq (by omega) N_eq.symm⟩
def row (r : Fin 10240) : Fin 128 := ⟨r.val % 128, by omega⟩

/-- The two arguments. -/
def argX (c : Dev nD) : Vec F S10240x8192 .bf16 := m ((c : Thread nD τ).loc main_arg0)
def argG (c : Dev nD) : Vec F S10240x8192 .bf16 := m ((c : Thread nD τ).loc main_arg1)

/-! ## Where the blocks lie -/

theorem index0 (t : Fin cfg0.N) : win0_0.index t (0 : Fin 2) = t.val ∧ win0_0.index t (1 : Fin 2) = 0 :=
  (by decide +kernel : ∀ t : Fin grid0.N, win0_0.index t (0 : Fin 2) = t.val ∧ win0_0.index t (1 : Fin 2) = 0) t
theorem index1 (t : Fin cfg0.N) : win0_1.index t (0 : Fin 2) = t.val ∧ win0_1.index t (1 : Fin 2) = 0 :=
  (by decide +kernel : ∀ t : Fin grid0.N, win0_1.index t (0 : Fin 2) = t.val ∧ win0_1.index t (1 : Fin 2) = 0) t
theorem index2 (t : Fin cfg0.N) : win0_2.index t (0 : Fin 2) = 0 ∧ win0_2.index t (1 : Fin 2) = 0 :=
  (by decide +kernel : ∀ t : Fin grid0.N, win0_2.index t (0 : Fin 2) = 0 ∧ win0_2.index t (1 : Fin 2) = 0) t
theorem index3 (t : Fin cfg0.N) : win0_3.index t (0 : Fin 2) = t.val ∧ win0_3.index t (1 : Fin 2) = 0 :=
  (by decide +kernel : ∀ t : Fin grid0.N, win0_3.index t (0 : Fin 2) = t.val ∧ win0_3.index t (1 : Fin 2) = 0) t
theorem index4 (t : Fin cfg0.N) : win0_4.index t (0 : Fin 2) = t.val ∧ win0_4.index t (1 : Fin 2) = 0 :=
  (by decide +kernel : ∀ t : Fin grid0.N, win0_4.index t (0 : Fin 2) = t.val ∧ win0_4.index t (1 : Fin 2) = 0) t
theorem index5 (t : Fin cfg0.N) : win0_5.index t (0 : Fin 2) = 0 ∧ win0_5.index t (1 : Fin 2) = t.val :=
  (by decide +kernel : ∀ t : Fin grid0.N, win0_5.index t (0 : Fin 2) = 0 ∧ win0_5.index t (1 : Fin 2) = t.val) t
theorem index6 (t : Fin cfg0.N) : win0_6.index t (0 : Fin 2) = 0 ∧ win0_6.index t (1 : Fin 2) = 0 :=
  (by decide +kernel : ∀ t : Fin grid0.N, win0_6.index t (0 : Fin 2) = 0 ∧ win0_6.index t (1 : Fin 2) = 0) t

/-! ## The inputs' blocks -/

theorem xb_apply (c : Dev nD) (t : Fin cfg0.N) (r : Fin 10240) (y : S128x8192.Idx) (h : r.val = 128 * t.val + (y 0).val) :
    xb m c t y = argX m c (ix2 r (y 1)) := by
  show V m c (Pipeline.arrRef spec0 0) (((cfg0.win 0).blk t).view.emb y) = _
  have he : (((cfg0.win 0).blk t).view.emb y : S10240x8192.Idx) = ix2 r (y 1) := by
    funext a; apply Fin.ext
    match a with
    | ⟨0, _⟩ => show win0_0.index t (0 : Fin 2) * 128 + 1 * (y 0).val = r.val; rw [(index0 t).1]; omega
    | ⟨1, _⟩ => show win0_0.index t (1 : Fin 2) * 8192 + 1 * (y 1).val = (y 1).val; rw [(index0 t).2]; omega
  rw [he]
  exact congrFun (V_main_arg0 m c) _
theorem gb_apply (c : Dev nD) (t : Fin cfg0.N) (r : Fin 10240) (y : S128x8192.Idx) (h : r.val = 128 * t.val + (y 0).val) :
    gb m c t y = argG m c (ix2 r (y 1)) := by
  show V m c (Pipeline.arrRef spec0 1) (((cfg0.win 1).blk t).view.emb y) = _
  have he : (((cfg0.win 1).blk t).view.emb y : S10240x8192.Idx) = ix2 r (y 1) := by
    funext a; apply Fin.ext
    match a with
    | ⟨0, _⟩ => show win0_1.index t (0 : Fin 2) * 128 + 1 * (y 0).val = r.val; rw [(index1 t).1]; omega
    | ⟨1, _⟩ => show win0_1.index t (1 : Fin 2) * 8192 + 1 * (y 1).val = (y 1).val; rw [(index1 t).2]; omega
  rw [he]
  exact congrFun (V_main_arg1 m c) _

/-! ## The outputs -/

theorem disjoint2 : ∀ t t' : Fin cfg0.N, (cfg0.win 2).flush t = true → (cfg0.win 2).flush t' = true → t ≠ t' →
    Disjoint ((cfg0.win 2).blk t).view.set ((cfg0.win 2).blk t').view.set := fun t t' h h' hne => by
  have := (flush0_2 t).mp h; have := (flush0_2 t').mp h'; have := N_eq; have := t.isLt; have := t'.isLt
  exact absurd (Fin.ext (by omega)) hne
theorem disjoint3 : ∀ t t' : Fin cfg0.N, (cfg0.win 3).flush t = true → (cfg0.win 3).flush t' = true → t ≠ t' →
    Disjoint ((cfg0.win 3).blk t).view.set ((cfg0.win 3).blk t').view.set := fun t t' _ _ hne =>
  (cfg0.win 3).disjoint_blk fun h => hne (Fin.ext ((index3 t).1.symm.trans ((congrFun h 0).trans (index3 t').1)))
theorem disjoint4 : ∀ t t' : Fin cfg0.N, (cfg0.win 4).flush t = true → (cfg0.win 4).flush t' = true → t ≠ t' →
    Disjoint ((cfg0.win 4).blk t).view.set ((cfg0.win 4).blk t').view.set := fun t t' _ _ hne =>
  (cfg0.win 4).disjoint_blk fun h => hne (Fin.ext ((index4 t).1.symm.trans ((congrFun h 0).trans (index4 t').1)))
theorem disjoint5 : ∀ t t' : Fin cfg0.N, (cfg0.win 5).flush t = true → (cfg0.win 5).flush t' = true → t ≠ t' →
    Disjoint ((cfg0.win 5).blk t).view.set ((cfg0.win 5).blk t').view.set := fun t t' _ _ hne =>
  (cfg0.win 5).disjoint_blk fun h => hne (Fin.ext ((index5 t).2.symm.trans ((congrFun h 1).trans (index5 t').2)))
theorem disjoint6 : ∀ t t' : Fin cfg0.N, (cfg0.win 6).flush t = true → (cfg0.win 6).flush t' = true → t ≠ t' →
    Disjoint ((cfg0.win 6).blk t).view.set ((cfg0.win 6).blk t').view.set := fun t t' h h' hne => by
  have := (flush0_6 t).mp h; have := (flush0_6 t').mp h'; have := N_eq; have := t.isLt; have := t'.isLt
  exact absurd (Fin.ext (by omega)) hne

/-- The last point. -/
def last : Fin cfg0.N := ⟨79, by rw [N_eq]; decide⟩

/-- The bias gradient is the last point's total of the running sums. -/
theorem final2 (c : Dev nD) (i : S1x8192.Idx) :
    (dats m 0 c).arrAt 2 cfg0.N i = k0_pay4 (sumAt m c 79 last.isLt) i := by
  have h := congrFun ((dats m 0 c).read_blk_arrAt_eq_flushed 2 disjoint2 cfg0.N last last.isLt ((flush0_2 last).mpr rfl)) i
  have he : (((cfg0.win 2).blk last).view.emb i : S1x8192.Idx) = i := by
    funext a; apply Fin.ext
    match a with
    | ⟨0, _⟩ => show win0_2.index last (0 : Fin 2) * 1 + 1 * (i 0).val = (i 0).val; rw [(index2 _).1]; omega
    | ⟨1, _⟩ => show win0_2.index last (1 : Fin 2) * 8192 + 1 * (i 1).val = (i 1).val; rw [(index2 _).2]; omega
  refine ((congrArg _ he).symm.trans h).trans ?_
  show (dats m 0 c).after 2 last _ = _
  rw [after_2]; rfl

/-- The row codes: block by block. -/
theorem final3 (c : Dev nD) (i : S10240x8192.Idx) :
    (dats m 0 c).arrAt 3 cfg0.N i = rcB (xb m c (pt (i 0))) (gb m c (pt (i 0))) (ix2 (row (i 0)) (i 1)) := by
  have h := congrFun ((dats m 0 c).read_blk_arrAt_eq_flushed 3 disjoint3 cfg0.N (pt (i 0)) (pt (i 0)).isLt (flush0_3 _)) (ix2 (row (i 0)) (i 1))
  have he : (((cfg0.win 3).blk (pt (i 0))).view.emb (ix2 (row (i 0)) (i 1)) : S10240x8192.Idx) = i := by
    funext a; apply Fin.ext
    match a with
    | ⟨0, _⟩ => show win0_3.index (pt (i 0)) (0 : Fin 2) * 128 + 1 * ((i 0).val % 128) = (i 0).val; rw [(index3 _).1]; show (i 0).val / 128 * 128 + _ = _; omega
    | ⟨1, _⟩ => show win0_3.index (pt (i 0)) (1 : Fin 2) * 8192 + 1 * (i 1).val = (i 1).val; rw [(index3 _).2]; omega
  refine ((congrArg _ he).symm.trans h).trans ?_
  show (dats m 0 c).after 3 (pt (i 0)) _ = _
  rw [after_3]; rfl

/-- The row scales. -/
theorem final4 (c : Dev nD) (i : S10240x64.Idx) :
    (dats m 0 c).arrAt 4 cfg0.N i = rsB (xb m c (pt (i 0))) (gb m c (pt (i 0))) (ix2 (row (i 0)) (i 1)) := by
  have h := congrFun ((dats m 0 c).read_blk_arrAt_eq_flushed 4 disjoint4 cfg0.N (pt (i 0)) (pt (i 0)).isLt (flush0_4 _)) (ix2 (row (i 0)) (i 1))
  have he : (((cfg0.win 4).blk (pt (i 0))).view.emb (ix2 (row (i 0)) (i 1)) : S10240x64.Idx) = i := by
    funext a; apply Fin.ext
    match a with
    | ⟨0, _⟩ => show win0_4.index (pt (i 0)) (0 : Fin 2) * 128 + 1 * ((i 0).val % 128) = (i 0).val; rw [(index4 _).1]; show (i 0).val / 128 * 128 + _ = _; omega
    | ⟨1, _⟩ => show win0_4.index (pt (i 0)) (1 : Fin 2) * 64 + 1 * (i 1).val = (i 1).val; rw [(index4 _).2]; omega
  refine ((congrArg _ he).symm.trans h).trans ?_
  show (dats m 0 c).after 4 (pt (i 0)) _ = _
  rw [after_4]; rfl

/-- The column codes, transposed. -/
theorem final5 (c : Dev nD) (i : S8192x10240.Idx) :
    (dats m 0 c).arrAt 5 cfg0.N i = ccB (xb m c (pt (i 1))) (gb m c (pt (i 1))) (ix2 (i 0) (row (i 1))) := by
  have h := congrFun ((dats m 0 c).read_blk_arrAt_eq_flushed 5 disjoint5 cfg0.N (pt (i 1)) (pt (i 1)).isLt (flush0_5 _)) (ix2 (i 0) (row (i 1)))
  have he : (((cfg0.win 5).blk (pt (i 1))).view.emb (ix2 (i 0) (row (i 1))) : S8192x10240.Idx) = i := by
    funext a; apply Fin.ext
    match a with
    | ⟨0, _⟩ => show win0_5.index (pt (i 1)) (0 : Fin 2) * 8192 + 1 * (i 0).val = (i 0).val; rw [(index5 _).1]; omega
    | ⟨1, _⟩ => show win0_5.index (pt (i 1)) (1 : Fin 2) * 128 + 1 * ((i 1).val % 128) = (i 1).val; rw [(index5 _).2]; show (i 1).val / 128 * 128 + _ = _; omega
  refine ((congrArg _ he).symm.trans h).trans ?_
  show (dats m 0 c).after 5 (pt (i 1)) _ = _
  rw [after_5]; rfl

/-- The column scales, transposed. -/
theorem final6 (c : Dev nD) (i : S8192x80.Idx) :
    (dats m 0 c).arrAt 6 cfg0.N i = csAll m c i := by
  have h := congrFun ((dats m 0 c).read_blk_arrAt_eq_flushed 6 disjoint6 cfg0.N last last.isLt ((flush0_6 last).mpr rfl)) i
  have he : (((cfg0.win 6).blk last).view.emb i : S8192x80.Idx) = i := by
    funext a; apply Fin.ext
    match a with
    | ⟨0, _⟩ => show win0_6.index last (0 : Fin 2) * 8192 + 1 * (i 0).val = (i 0).val; rw [(index6 _).1]; omega
    | ⟨1, _⟩ => show win0_6.index last (1 : Fin 2) * 80 + 1 * (i 1).val = (i 1).val; rw [(index6 _).2]; omega
  refine ((congrArg _ he).symm.trans h).trans ?_
  show (dats m 0 c).after 6 last _ = _
  rw [after_6]; rfl

/-- The run, its five results named and its arguments as launched. -/
theorem run : θ_run defs (onTc (τ := τ) (main (F := F))) ⟨m, fun _ => 0, ρ⟩ fun r => ∀ c : Dev nD,
      r.2.mem ((c : Thread nD τ).loc main_v0_0) = (dats m 0 c).arrAt 2 cfg0.N
      ∧ r.2.mem ((c : Thread nD τ).loc main_v0_1) = (dats m 0 c).arrAt 3 cfg0.N
      ∧ r.2.mem ((c : Thread nD τ).loc main_v0_2) = (dats m 0 c).arrAt 4 cfg0.N
      ∧ r.2.mem ((c : Thread nD τ).loc main_v0_3) = (dats m 0 c).arrAt 5 cfg0.N
      ∧ r.2.mem ((c : Thread nD τ).loc main_v0_4) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 2, (h c).1 3, (h c).1 4, (h c).1 5, (h c).1 6,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

/-- The frame: the arguments end as they were and every semaphore counter reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c)))⟩, h.2⟩)
    (run_main_quiescent m ρ)

end Cert.Proof.Run

end
-- ==== Proof.Spec.lean ====
/- The numbers of the reference, one at a time: the gradient of the GELU at an entry, the power of two that belongs to a
   group's greatest magnitude, and the clipping of a scaled entry. The extended reals are meant throughout. -/
module

public import Idealize.ShloMosaic.Lib.Pointwise

@[expose] public section

noncomputable section

namespace Cert.Proof.Spec

open Idealize.ShloMosaic

/-- The factors of the GELU's inner polynomial, and the halves, as the reference holds them. -/
abbrev kk : EReal := Ideal.ofBits .f32 0x3F4C422A#32
abbrev cc : EReal := Ideal.ofBits .f32 0x3D372713#32
abbrev half : EReal := Ideal.ofBits .f32 0x3F000000#32
abbrev three : EReal := Ideal.ofBits .f32 0x40400000#32

/-- The argument of the GELU's tanh. -/
def arg (x : EReal) : EReal := kk * (x + cc * (x * x) * x)

/-- The derivative of the tanh GELU at `x`. -/
def dgelu (x : EReal) : EReal :=
  half * (1 + Ideal.tanh (arg x))
    + half * x * (1 - Ideal.tanh (arg x) * Ideal.tanh (arg x)) * kk * (1 + three * (cc * (x * x)))

/-- An entry of the gradient before the activation. -/
def entry (x g : EReal) : EReal := g * dgelu x

/-- The greatest magnitude of a group of 128 entries. -/
def peak (d : Fin 128 → EReal) : EReal :=
  Finset.univ.fold max (Ideal.ofBits .f32 0xFF800000#32) fun k => FloatOps.absf (F := Ideal) (φ := .f32) (d k)

/-- The same over the greatest code. -/
def ratio (d : Fin 128 → EReal) : EReal := peak d * Ideal.ofBits .f32 0x37924925#32

/-- The exponent of a ratio: the one that frexp gives a normal number, and 0 otherwise. -/
def expo (p : EReal) : EReal :=
  if Ideal.ofBits .f32 0x00800000#32 ≤ p ∧ p < Ideal.ofBits .f32 0x7F800000#32 then
    Ideal.liftRound Int.floor (Ideal.div (Ideal.log p) (Ideal.log (Ideal.ofBits .f32 0x40000000#32))) + 1
  else 0

/-- Two to the power `e`. -/
def pow2 (e : EReal) : EReal := Ideal.exp (e * Ideal.log (Ideal.ofBits .f32 0x40000000#32))

/-- The scale of a group. -/
def scale (p : EReal) : EReal := pow2 (expo p)

/-- Its reciprocal. -/
def invScale (p : EReal) : EReal := pow2 (-expo p)

/-- A number clipped to the range of the codes. -/
def clip (v : EReal) : EReal := min (Ideal.ofBits .f32 0x47600000#32) (max (Ideal.ofBits .f32 0xC7600000#32) v)

end Cert.Proof.Spec
-- ==== Proof.Gelu.lean ====
/- The kernel's form of the GELU's derivative, through the logistic function, is the reference's, through tanh; and the
   derivative is bounded. -/
module

public import Idealize.ShloMosaic.Lib.Pointwise
public import proofs.«01_k».proof.Proof.Spec
public import Mathlib.Analysis.SpecialFunctions.Trigonometric.DerivHyp

@[expose] public section

noncomputable section

namespace Cert.Proof.Gelu

open Idealize.ShloMosaic

/-- The factor of tanh's argument, and the cubic term's coefficient. -/
def K : ℝ := 6693141 / 8388608
def C : ℝ := 12003091 / 268435456

theorem kk_eq : Spec.kk = (K : EReal) := by
  simp [Spec.kk, Ideal.ofBits, Ideal.ieee, -EReal.coe_mul, K]; norm_num
theorem cc_eq : Spec.cc = (C : EReal) := by
  simp [Spec.cc, Ideal.ofBits, Ideal.ieee, -EReal.coe_mul, C]; norm_num
theorem half_eq : Spec.half = ((1 / 2 : ℝ) : EReal) := by
  simp [Spec.half, Ideal.ofBits, Ideal.ieee, -EReal.coe_mul]; norm_num
theorem three_eq : Spec.three = ((3 : ℝ) : EReal) := by
  simp [Spec.three, Ideal.ofBits, Ideal.ieee, -EReal.coe_mul]; norm_num

/-- The kernel's derivative: `s + s (1 - s) w`. -/
def kernel (x : EReal) : EReal :=
  Ideal.logistic (x * (((2 * K : ℝ) : EReal) + ((2 * K * C : ℝ) : EReal) * (x * x))) *
    (1 + x * (((2 * K : ℝ) : EReal) + ((6 * K * C : ℝ) : EReal) * (x * x)) *
      (1 - Ideal.logistic (x * (((2 * K : ℝ) : EReal) + ((2 * K * C : ℝ) : EReal) * (x * x)))))

/-- The logistic function of a real number. -/
def sg (y : ℝ) : ℝ := (1 + Real.exp (-y))⁻¹

theorem logistic_coe (y : ℝ) : Ideal.logistic (y : EReal) = (sg y : EReal) := by
  have h : (1 + Real.exp (-y) : ℝ) ≠ 0 := by positivity
  have h' : (1 : EReal) + Ideal.exp (-(y : EReal)) = ((1 + Real.exp (-y) : ℝ) : EReal) := by
    rw [← EReal.coe_neg, Ideal.exp_coe]; rfl
  unfold Ideal.logistic Ideal.div sg
  rw [h', if_neg (by exact_mod_cast h), one_mul, ← EReal.coe_inv]

theorem logistic_top : Ideal.logistic ⊤ = 1 := by
  unfold Ideal.logistic Ideal.div
  simp

theorem logistic_bot : Ideal.logistic ⊥ = 0 := by
  unfold Ideal.logistic Ideal.div
  have : (1 : EReal) + ⊤ = ⊤ := by exact_mod_cast EReal.coe_add_top 1
  simp [this]

theorem tanh_sg (u : ℝ) : Real.tanh u = 2 * sg (2 * u) - 1 := by
  unfold sg
  rw [Real.tanh_eq_sinh_div_cosh, Real.sinh_eq, Real.cosh_eq]
  have h : Real.exp (-(2 * u)) = Real.exp (-u) * Real.exp (-u) := by rw [← Real.exp_add]; congr 1; ring
  have h2 : Real.exp u * Real.exp (-u) = 1 := by rw [← Real.exp_add]; simp
  rw [h]
  have h3 := Real.exp_pos u
  have h4 := Real.exp_pos (-u)
  field_simp
  nlinarith

/-- The real derivative, the kernel's way. -/
def real (x : ℝ) : ℝ :=
  sg (x * (2 * K + 2 * K * C * (x * x))) *
    (1 + x * (2 * K + 6 * K * C * (x * x)) * (1 - sg (x * (2 * K + 2 * K * C * (x * x)))))

theorem kernel_coe (x : ℝ) : kernel x = (real x : EReal) := by
  unfold kernel real
  have h : (x : EReal) * (((2 * K : ℝ) : EReal) + ((2 * K * C : ℝ) : EReal) * ((x : EReal) * x))
      = ((x * (2 * K + 2 * K * C * (x * x)) : ℝ) : EReal) := by push_cast; rfl
  rw [h, logistic_coe]
  push_cast
  rfl

theorem dgelu_coe (x : ℝ) : Spec.dgelu x = (real x : EReal) := by
  have ha : Spec.arg x = ((K * (x + C * (x * x) * x) : ℝ) : EReal) := by
    unfold Spec.arg; rw [kk_eq, cc_eq]; push_cast; rfl
  have hr : real x = 1 / 2 * (1 + Real.tanh (K * (x + C * (x * x) * x)))
      + 1 / 2 * x * (1 - Real.tanh (K * (x + C * (x * x) * x)) * Real.tanh (K * (x + C * (x * x) * x))) * K
        * (1 + 3 * (C * (x * x))) := by
    rw [tanh_sg, show 2 * (K * (x + C * (x * x) * x)) = x * (2 * K + 2 * K * C * (x * x)) by ring]
    unfold real
    ring
  unfold Spec.dgelu
  rw [ha, Ideal.tanh_coe, half_eq, kk_eq, cc_eq, three_eq, hr]
  push_cast
  rfl

theorem K_pos : 0 < K := by unfold K; norm_num
theorem C_pos : 0 < C := by unfold C; norm_num

theorem one_sub : (1 : EReal) - 1 = 0 := by
  rw [← EReal.coe_one, ← EReal.coe_sub, sub_self]; rfl

theorem kernel_top : kernel ⊤ = 1 := by
  have h1 : (0 : ℝ) < 2 * K := by have := K_pos; positivity
  have h2 : (0 : ℝ) < 2 * K * C := by have := K_pos; have := C_pos; positivity
  have h3 : (0 : ℝ) < 6 * K * C := by have := K_pos; have := C_pos; positivity
  unfold kernel
  rw [EReal.top_mul_top, EReal.coe_mul_top_of_pos h2, EReal.coe_mul_top_of_pos h3, EReal.coe_add_top, EReal.top_mul_top,
    logistic_top]
  rw [one_sub]; simp

theorem kernel_bot : kernel ⊥ = 0 := by
  have h2 : (0 : ℝ) < 2 * K * C := by have := K_pos; have := C_pos; positivity
  have h3 : (0 : ℝ) < 6 * K * C := by have := K_pos; have := C_pos; positivity
  unfold kernel
  rw [EReal.bot_mul_bot, EReal.coe_mul_top_of_pos h2, EReal.coe_mul_top_of_pos h3, EReal.coe_add_top, EReal.bot_mul_top,
    logistic_bot]
  simp

theorem dgelu_top : Spec.dgelu ⊤ = 1 := by
  have ha : Spec.arg ⊤ = ⊤ := by
    unfold Spec.arg
    rw [kk_eq, cc_eq, EReal.top_mul_top, EReal.coe_mul_top_of_pos C_pos, EReal.top_mul_top, EReal.top_add_top,
      EReal.coe_mul_top_of_pos K_pos]
  unfold Spec.dgelu
  rw [ha, Ideal.tanh_top, half_eq]
  have h0 : (1 : EReal) - 1 * 1 = 0 := by rw [mul_one, one_sub]
  have h1 : ((1 / 2 : ℝ) : EReal) * (1 + 1) = 1 := by
    rw [← EReal.coe_one, ← EReal.coe_add, ← EReal.coe_mul]; norm_num
  rw [h0, h1]; simp

theorem dgelu_bot : Spec.dgelu ⊥ = 0 := by
  have ha : Spec.arg ⊥ = ⊥ := by
    unfold Spec.arg
    rw [kk_eq, cc_eq, EReal.bot_mul_bot, EReal.coe_mul_top_of_pos C_pos, EReal.top_mul_bot, EReal.bot_add,
      EReal.coe_mul_bot_of_pos K_pos]
  unfold Spec.dgelu
  rw [ha, Ideal.tanh_bot, half_eq]
  have h0 : (1 : EReal) - -1 * -1 = 0 := by rw [neg_mul_neg, mul_one, one_sub]
  have h1 : (1 : EReal) + -1 = 0 := by
    rw [← EReal.coe_one, ← EReal.coe_neg, ← EReal.coe_add]; norm_num
  rw [h0, h1]; simp

/-- **The two forms agree**, at the infinities too. -/
theorem kernel_eq (x : EReal) : kernel x = Spec.dgelu x := by
  induction x with
  | bot => rw [kernel_bot, dgelu_bot]
  | top => rw [kernel_top, dgelu_top]
  | coe x => rw [kernel_coe, dgelu_coe]

/-! ## The bound -/

theorem sg_pos (y : ℝ) : 0 < sg y := by unfold sg; positivity
theorem sg_lt (y : ℝ) : sg y < 1 := by
  unfold sg
  exact inv_lt_one_of_one_lt₀ (by have := Real.exp_pos (-y); linarith)

theorem sg_slope (y : ℝ) : |sg y * (1 - sg y) * y| ≤ 1 := by
  have h : sg y * (1 - sg y) = (2 + Real.exp y + Real.exp (-y))⁻¹ := by
    unfold sg
    have h2 : Real.exp y * Real.exp (-y) = 1 := by rw [← Real.exp_add]; simp
    have h3 := Real.exp_pos y
    have h4 := Real.exp_pos (-y)
    field_simp
    nlinarith
  rw [h, abs_mul, abs_of_pos (by positivity), inv_mul_le_iff₀ (by positivity), mul_one]
  have h1 := Real.add_one_le_exp y
  have h2 := Real.add_one_le_exp (-y)
  have h3 := Real.exp_pos y
  have h4 := Real.exp_pos (-y)
  rcases abs_cases y with ⟨h, _⟩ | ⟨h, _⟩ <;> rw [h] <;> linarith

theorem real_bound (x : ℝ) : |real x| ≤ 4 := by
  set y := x * (2 * K + 2 * K * C * (x * x)) with hy
  have hs0 := sg_pos y
  have hs1 := sg_lt y
  have hsl := sg_slope y
  have hw : |x * (2 * K + 6 * K * C * (x * x))| ≤ 3 * |y| := by
    have hk := K_pos
    have hc := C_pos
    have hx : 0 ≤ x * x := mul_self_nonneg x
    rw [hy, abs_mul, abs_mul, abs_of_nonneg (by positivity : 0 ≤ 2 * K + 6 * K * C * (x * x)),
      abs_of_nonneg (by positivity : 0 ≤ 2 * K + 2 * K * C * (x * x))]
    have : 2 * K + 6 * K * C * (x * x) ≤ 3 * (2 * K + 2 * K * C * (x * x)) := by nlinarith
    nlinarith [abs_nonneg x]
  have hr : real x = sg y + (sg y * (1 - sg y)) * (x * (2 * K + 6 * K * C * (x * x))) := by
    unfold real; rw [← hy]; ring
  have hp : 0 ≤ sg y * (1 - sg y) := by nlinarith
  have h3 : |(sg y * (1 - sg y)) * (x * (2 * K + 6 * K * C * (x * x)))| ≤ 3 := by
    rw [abs_mul, abs_of_nonneg hp]
    rw [abs_mul, abs_of_nonneg hp] at hsl
    nlinarith
  rw [hr]
  calc _ ≤ |sg y| + _ := abs_add_le _ _
    _ ≤ 1 + 3 := add_le_add (by rw [abs_of_pos hs0]; exact hs1.le) h3
    _ = 4 := by norm_num

/-- The derivative is a real number of at most 4, wherever. -/
theorem dgelu_bound (x : EReal) : ∃ r : ℝ, Spec.dgelu x = r ∧ |r| ≤ 4 := by
  induction x with
  | bot => exact ⟨0, by rw [dgelu_bot]; rfl, by norm_num⟩
  | top => exact ⟨1, by rw [dgelu_top]; rfl, by norm_num⟩
  | coe x => exact ⟨real x, dgelu_coe x, real_bound x⟩

end Cert.Proof.Gelu
-- ==== Proof.Word.lean ====
/- The kernel's numbers, one at a time: the gradient of the GELU at an entry, the exponent's word of a ratio, found bit
   by bit, and the two scales made of that word. -/
module

public import Idealize.ShloMosaic.Lib.Pointwise

@[expose] public section

noncomputable section

namespace Cert.Proof.Word

open Idealize.ShloMosaic

/-- One more bit of the exponent, kept when the number it makes is at most `p`. -/
def probe (p : EReal) (b e : BitVec 32) : BitVec 32 := if Ideal.ofBits .f32 (e + b) ≤ p then e + b else e

/-- The exponent's word of `p`. -/
def word (p : EReal) : BitVec 32 :=
  probe p 8388608#32 (probe p 16777216#32 (probe p 33554432#32 (probe p 67108864#32
    (probe p 134217728#32 (probe p 268435456#32 (probe p 536870912#32 (probe p 1073741824#32 0#32)))))))

/-- The word is neither zero's nor infinity's. -/
def ok (w : BitVec 32) : Bool := (0#32).slt w && w.slt 2139095040#32

/-- The scale of a group. -/
def scale (p : EReal) : EReal := if ok (word p) then Ideal.ofBits .f32 (word p + 8388608#32) else 1

/-- Its reciprocal. -/
def invScale (p : EReal) : EReal := if ok (word p) then Ideal.ofBits .f32 (2122317824#32 - word p) else 1

end Cert.Proof.Word
-- ==== Proof.TileAt.lean ====
/- What the kernel computes from a tile of 128 by 128 entries, at an entry, over the extended reals. -/
module

public import Idealize.ShloMosaic.Lib.Pointwise
public import proofs.«01_k».proof.Proof.Blocks
public import proofs.«01_k».proof.Proof.Spec
public import proofs.«01_k».proof.Proof.Gelu
public import proofs.«01_k».proof.Proof.Word

@[expose] public section

noncomputable section

namespace Cert.Proof.Run

open Idealize.ShloMosaic Idealize.SL.Sem Cert.KernelIdeal Cert.KernelIdeal.Gen Word

/-- An array of one more bit each. -/
def probeV {s : Shape} (p : FVec Ideal s .f32) (b : BitVec 32) (e : IVec s 32) : IVec s 32 :=
  select (cmpf .oge p (bitcastToFloat .f32 (addi e (broadcast s b)))) (addi e (broadcast s b)) e

theorem probeV_at {s : Shape} (p : FVec Ideal s .f32) (b : BitVec 32) (e : IVec s 32) (i : s.Idx) :
    probeV p b e i = probe (p i) b (e i) := by
  unfold probeV probe
  pointwise
  rfl

/-- An array of words. -/
def wordV {s : Shape} (p : FVec Ideal s .f32) : IVec s 32 :=
  probeV p 8388608#32 (probeV p 16777216#32 (probeV p 33554432#32 (probeV p 67108864#32
    (probeV p 134217728#32 (probeV p 268435456#32 (probeV p 536870912#32 (probeV p 1073741824#32 (broadcast s 0#32))))))))

theorem wordV_at {s : Shape} (p : FVec Ideal s .f32) (i : s.Idx) : wordV p i = word (p i) := by
  unfold wordV word
  simp only [probeV_at]
  rfl

theorem row_word (v q : FVec Ideal S128x1 .f32) : k0_pay11 v q = wordV (mulf v q) := by
  rfl

theorem col_word (d : FVec Ideal S128x128 .f32) : k0_pay20 (k0_pay17 d) (k0_pay18 d) k0_pay19 = wordV (k0_pay17 d) := by
  rfl

theorem okV_at {s : Shape} (w : IVec s 32) (i : s.Idx) :
    andi (cmpi .sgt w (broadcast s 0#32)) (cmpi .slt w (broadcast s 2139095040#32)) i = BitVec.ofBool (ok (w i)) := by
  unfold ok
  pointwise
  have h : ∀ a b : Bool, BitVec.ofBool a &&& BitVec.ofBool b = BitVec.ofBool (a && b) := by decide
  exact h _ _

/-- An array of scales, -/
def scaleV {s : Shape} (p : FVec Ideal s .f32) : FVec Ideal s .f32 :=
  select (andi (cmpi .sgt (wordV p) (broadcast s 0#32)) (cmpi .slt (wordV p) (broadcast s 2139095040#32)))
    (bitcastToFloat .f32 (addi (wordV p) (broadcast s 8388608#32)))
    (broadcast s (Scalar.ofBits (F := Ideal) .f32 0x3F800000#32))
/-- and of their reciprocals. -/
def invV {s : Shape} (p : FVec Ideal s .f32) : FVec Ideal s .f32 :=
  select (andi (cmpi .sgt (wordV p) (broadcast s 0#32)) (cmpi .slt (wordV p) (broadcast s 2139095040#32)))
    (bitcastToFloat .f32 (subi (broadcast s 2122317824#32) (wordV p)))
    (broadcast s (Scalar.ofBits (F := Ideal) .f32 0x3F800000#32))

theorem scaleV_at {s : Shape} (p : FVec Ideal s .f32) (i : s.Idx) : scaleV p i = Word.scale (p i) := by
  unfold scaleV Word.scale
  rw [select, okV_at]
  pointwise
  rw [wordV_at]
  rfl

theorem invV_at {s : Shape} (p : FVec Ideal s .f32) (i : s.Idx) : invV p i = Word.invScale (p i) := by
  unfold invV Word.invScale
  rw [select, okV_at]
  pointwise
  rw [wordV_at]
  rfl

theorem two_k_eq : Named.named (F := Ideal) (φ := .f32) κ "two_k" 0x3FCC422A#32 = ((2 * Gelu.K : ℝ) : EReal) := by
  rw [IdealRules.named_const.ideal_named_scalar (κ := κ) "two_k" (φ := .f32) 0x3FCC422A#32 _ rfl]
  congr 1; unfold Gelu.K; norm_num
theorem two_k_c_eq : Named.named (F := Ideal) (φ := .f32) κ "two_k_c" 0x3D922279#32 = ((2 * Gelu.K * Gelu.C : ℝ) : EReal) := by
  rw [IdealRules.named_const.ideal_named_scalar (κ := κ) "two_k_c" (φ := .f32) 0x3D922279#32 _ rfl]
  congr 1; unfold Gelu.K Gelu.C; norm_num
theorem six_k_c_eq : Named.named (F := Ideal) (φ := .f32) κ "six_k_c" 0x3E5B33B6#32 = ((6 * Gelu.K * Gelu.C : ℝ) : EReal) := by
  rw [IdealRules.named_const.ideal_named_scalar (κ := κ) "six_k_c" (φ := .f32) 0x3E5B33B6#32 _ rfl]
  congr 1; unfold Gelu.K Gelu.C; norm_num

/-- An entry of the tile is the reference's. -/
theorem entry_at (x g : Vec Ideal S128x128 .bf16) (r n : Fin 128) :
    k0_pay6 x g (ix2 r n) = Spec.entry (x (ix2 r n)) (g (ix2 r n)) := by
  unfold Spec.entry
  rw [← Gelu.kernel_eq]
  unfold k0_pay6 Gelu.kernel
  pointwise
  rw [two_k_eq, two_k_c_eq, six_k_c_eq]

theorem rowRatio_at (x g : Vec Ideal S128x128 .bf16) (r : Fin 128) :
    mulf (k0_pay9 x g) k0_pay10 (ix2 r 0) = Spec.ratio (fun k => k0_pay6 x g (ix2 r k)) := by
  unfold k0_pay9 k0_pay10 k0_pay7 Spec.ratio Spec.peak
  pointwise

theorem colRatio_at (x g : Vec Ideal S128x128 .bf16) (n : Fin 128) :
    k0_pay17 (k0_pay7 x g) (ix2 0 n) = Spec.ratio (fun k => k0_pay6 x g (ix2 k n)) := by
  unfold k0_pay17 k0_pay7 Spec.ratio Spec.peak
  pointwise

theorem sum_at (x g : Vec Ideal S128x128 .bf16) (old : Vec Ideal S8x128 .f32) (h : Fin 8) (n : Fin 128) :
    k0_pay8 x g old (ix2 h n) = old (ix2 h n) + ∑ k : Fin 16, k0_pay6 x g (ix2 ⟨k.val * 8 + h.val, by omega⟩ n) := by
  unfold k0_pay8
  pointwise

theorem total_at (x : Vec Ideal S8x8192 .f32) (n : Fin 8192) :
    k0_pay4 x (ix2 0 n) = ∑ h : Fin 8, x (ix2 h n) := by
  unfold k0_pay4
  pointwise

theorem zero_at (i : S8x8192.Idx) : k0_pay1 (F := Ideal) i = 0 := by
  unfold k0_pay1
  pointwise

theorem inv_row (d : FVec Ideal S128x128 .f32) (e : IVec S128x1 32) (o : IVec S128x1 1) (r k : Fin 128) :
    k0_pay14 d e o (ix2 r k) = Spec.clip (d (ix2 r k) *
      select o (bitcastToFloat .f32 (subi (broadcast S128x1 2122317824#32) e))
        (broadcast S128x1 (Scalar.ofBits (F := Ideal) .f32 0x3F800000#32)) (ix2 r 0)) := by
  unfold k0_pay14 Spec.clip
  pointwise

theorem scale_row (e w : IVec S128x1 32) (o : IVec S128x1 1) (r : Fin 128) (n : Fin 64) :
    k0_pay15 (F := Ideal) e o w (ix2 r n) = select o (bitcastToFloat .f32 (addi e w))
        (broadcast S128x1 (Scalar.ofBits (F := Ideal) .f32 0x3F800000#32)) (ix2 r 0) := by
  unfold k0_pay15
  pointwise

theorem turned (d : FVec Ideal S128x128 .f32) (p : FVec Ideal S1x128 .f32) (e w : IVec S1x128 32) (n r : Fin 128) :
    k0_pay23 d p e w (ix2 n r) = d (ix2 r n) *
      select (k0_pay21 p e w) (bitcastToFloat .f32 (subi (broadcast S1x128 2122317824#32) (k0_pay20 p e w)))
        (broadcast S1x128 (Scalar.ofBits (F := Ideal) .f32 0x3F800000#32)) (ix2 0 n) := by
  unfold k0_pay23
  pointwise

theorem clipped (v : FVec Ideal S128x128 .f32) (i : S128x128.Idx) :
    k0_pay24 v (Scalar.ofBits .f32 0xC7600000#32) (Scalar.ofBits .f32 0x47600000#32) i = Spec.clip (v i) := by
  unfold k0_pay24 Spec.clip
  pointwise

/-! ## The results of a tile -/

/-- The entries of a tile's row, -/
def rowOf (x g : Vec Ideal S128x128 .bf16) (r : Fin 128) : Fin 128 → EReal :=
  fun k => Spec.entry (x (ix2 r k)) (g (ix2 r k))
/-- and of a column. -/
def colOf (x g : Vec Ideal S128x128 .bf16) (n : Fin 128) : Fin 128 → EReal :=
  fun k => Spec.entry (x (ix2 k n)) (g (ix2 k n))

theorem rowRatio_eq (x g : Vec Ideal S128x128 .bf16) (r : Fin 128) :
    mulf (k0_pay9 x g) k0_pay10 (ix2 r 0) = Spec.ratio (rowOf x g r) := by
  rw [rowRatio_at]
  exact congrArg Spec.ratio (funext fun k => entry_at x g r k)

theorem colRatio_eq (x g : Vec Ideal S128x128 .bf16) (n : Fin 128) :
    k0_pay17 (k0_pay7 x g) (ix2 0 n) = Spec.ratio (colOf x g n) := by
  rw [colRatio_at]
  exact congrArg Spec.ratio (funext fun k => entry_at x g k n)

theorem rcT_at (x g : Vec Ideal S128x128 .bf16) (r k : Fin 128) :
    rcT x g (ix2 r k) = Spec.clip (rowOf x g r k * Word.invScale (Spec.ratio (rowOf x g r))) := by
  unfold rcT
  rw [inv_row, entry_at, ← rowRatio_eq, ← invV_at]
  rfl

theorem rsT_at (x g : Vec Ideal S128x128 .bf16) (r : Fin 128) (n : Fin 64) :
    rsT x g (ix2 r n) = Word.scale (Spec.ratio (rowOf x g r)) := by
  unfold rsT
  rw [scale_row, ← rowRatio_eq, ← scaleV_at]
  rfl

theorem csT_at (x g : Vec Ideal S128x128 .bf16) (n : Fin 128) :
    csT x g (ix2 0 n) = Word.scale (Spec.ratio (colOf x g n)) := by
  rw [← colRatio_eq, ← scaleV_at]
  rfl

theorem ccT_at (x g : Vec Ideal S128x128 .bf16) (n r : Fin 128) :
    ccT x g (ix2 n r) = Spec.clip (colOf x g n r * Word.invScale (Spec.ratio (colOf x g n))) := by
  unfold ccT
  rw [clipped, turned, entry_at, ← colRatio_eq, ← invV_at]
  rfl

end Cert.Proof.Run
-- ==== Proof.KerVal.lean ====
/- The kernel's five results, entry by entry, from the gradient before the activation: over the extended reals. -/
module

public import proofs.«01_k».proof.Proof.Arrays
public import proofs.«01_k».proof.Proof.TileAt

@[expose] public section

noncomputable section

namespace Cert.Proof.Run

open Cert.KernelIdeal Cert.KernelIdeal.Gen
open Idealize.ShloMosaic Idealize.ShloMosaic.TcCoe

/-- The 16 times 8 rows of a block, one after the other. -/
theorem sum_rows (f : Fin 128 → EReal) :
    ∑ u : Fin 8, ∑ k : Fin 16, f ⟨k.val * 8 + u.val, by omega⟩ = ∑ k : Fin 128, f k := by
  rw [Finset.sum_comm, ← Equiv.sum_comp (finProdFinEquiv : Fin 16 × Fin 8 ≃ Fin (16 * 8)) f, Fintype.sum_prod_type]
  refine Finset.sum_congr rfl fun k _ => Finset.sum_congr rfl fun u _ => congrArg f (Fin.ext ?_)
  show k.val * 8 + u.val = u.val + 8 * k.val
  omega

/-- A column by its group and lane. -/
def at128 (n : Fin 64) (k : Fin 128) : Fin 8192 := ⟨n.val * 128 + k.val, by omega⟩
/-- A row by its block and place. -/
def row128 (b : Fin 80) (k : Fin 128) : Fin 10240 := ⟨b.val * 128 + k.val, by omega⟩

theorem grp_at (n : Fin 64) (k : Fin 128) : grp (at128 n k) = n := by
  apply Fin.ext; show (n.val * 128 + k.val) / 128 = n.val; omega
theorem lane_at (n : Fin 64) (k : Fin 128) : lane (at128 n k) = k := by
  apply Fin.ext; show (n.val * 128 + k.val) % 128 = k.val; omega
theorem row_at (b : Fin 80) (k : Fin 128) : row (row128 b k) = k := by
  apply Fin.ext; show (b.val * 128 + k.val) % 128 = k.val; omega
theorem pt_at (b : Fin 80) (k : Fin 128) : pt (row128 b k) = ⟨b.val, lt_of_lt_of_eq b.isLt N_eq.symm⟩ := by
  apply Fin.ext; show (b.val * 128 + k.val) / 128 = b.val; omega

theorem exists_col (q : Fin 8192) : ∃ n k, q = at128 n k :=
  ⟨⟨q.val / 128, by omega⟩, ⟨q.val % 128, by omega⟩, Fin.ext (by show q.val = q.val / 128 * 128 + q.val % 128; omega)⟩
theorem exists_row (r : Fin 10240) : ∃ b k, r = row128 b k :=
  ⟨⟨r.val / 128, by omega⟩, ⟨r.val % 128, by omega⟩, Fin.ext (by show r.val = r.val / 128 * 128 + r.val % 128; omega)⟩

variable (m : (ℓ : Loc nD τ sig) → Buf (Elt Ideal) ℓ) (c : Dev nD)

/-- An entry of the gradient before the activation. -/
def ent (r : Fin 10240) (q : Fin 8192) : EReal := Spec.entry (argX m c (ix2 r q)) (argG m c (ix2 r q))

/-- A group of a row, -/
def rowG (r : Fin 10240) (n : Fin 64) : Fin 128 → EReal := fun k => ent m c r (at128 n k)
/-- and of a column. -/
def colG (b : Fin 80) (q : Fin 8192) : Fin 128 → EReal := fun k => ent m c (row128 b k) q

theorem tile_ent (t : Fin cfg0.N) (n : Fin 64) (r : Fin 10240) (y k : Fin 128) (h : r.val = 128 * t.val + y.val) :
    Spec.entry (vt (xb m c t) n (ix2 y k)) (vt (gb m c t) n (ix2 y k)) = ent m c r (at128 n k) := by
  have hq : (⟨128 * n.val + k.val, by omega⟩ : Fin 8192) = at128 n k := Fin.ext (by show 128 * n.val + k.val = n.val * 128 + k.val; omega)
  have hx : vt (xb m c t) n (ix2 y k) = argX m c (ix2 r (at128 n k)) := by
    rw [← hq]; exact xb_apply m c t r (ix2 y ⟨128 * n.val + k.val, by omega⟩) h
  have hg : vt (gb m c t) n (ix2 y k) = argG m c (ix2 r (at128 n k)) := by
    rw [← hq]; exact gb_apply m c t r (ix2 y ⟨128 * n.val + k.val, by omega⟩) h
  rw [hx, hg, ent]

theorem rowOf_eq (r : Fin 10240) (n : Fin 64) :
    rowOf (vt (xb m c (pt r)) n) (vt (gb m c (pt r)) n) (row r) = rowG m c r n := by
  funext k
  exact tile_ent m c (pt r) n r (row r) k (by show r.val = 128 * (r.val / 128) + r.val % 128; omega)

theorem colOf_eq (t : Fin cfg0.N) (b : Fin 80) (h : t.val = b.val) (n : Fin 64) (l : Fin 128) :
    colOf (vt (xb m c t) n) (vt (gb m c t) n) l = colG m c b (at128 n l) := by
  funext k
  exact tile_ent m c t n (row128 b k) k l (by show b.val * 128 + k.val = 128 * t.val + k.val; omega)

/-- The row codes, -/
theorem val3 (r : Fin 10240) (n : Fin 64) (k : Fin 128) :
    (dats m 0 c).arrAt 3 cfg0.N (ix2 r (at128 n k) : S10240x8192.Idx)
      = Spec.clip (ent m c r (at128 n k) * Word.invScale (Spec.ratio (rowG m c r n))) := by
  rw [final3]
  show rcT (vt (xb m c (pt r)) (grp (at128 n k))) (vt (gb m c (pt r)) (grp (at128 n k))) (ix2 (row r) (lane (at128 n k))) = _
  rw [grp_at, lane_at, rcT_at, rowOf_eq]
  rfl

/-- the row scales, -/
theorem val4 (r : Fin 10240) (n : Fin 64) :
    (dats m 0 c).arrAt 4 cfg0.N (ix2 r n : S10240x64.Idx) = Word.scale (Spec.ratio (rowG m c r n)) := by
  rw [final4]
  show rsT (vt (xb m c (pt r)) n) (vt (gb m c (pt r)) n) (ix2 (row r) n) = _
  rw [rsT_at, rowOf_eq]

/-- the column codes, -/
theorem val5 (b : Fin 80) (k : Fin 128) (q : Fin 8192) :
    (dats m 0 c).arrAt 5 cfg0.N (ix2 q (row128 b k) : S8192x10240.Idx)
      = Spec.clip (ent m c (row128 b k) q * Word.invScale (Spec.ratio (colG m c b q))) := by
  obtain ⟨n, l, rfl⟩ := exists_col q
  rw [final5]
  show ccT (vt (xb m c (pt (row128 b k))) (grp (at128 n l))) (vt (gb m c (pt (row128 b k))) (grp (at128 n l)))
    (ix2 (lane (at128 n l)) (row (row128 b k))) = _
  rw [grp_at, lane_at, row_at, ccT_at, colOf_eq m c (pt (row128 b k)) b (by rw [pt_at])]
  rfl

/-- the column scales, -/
theorem val6 (b : Fin 80) (q : Fin 8192) :
    (dats m 0 c).arrAt 6 cfg0.N (ix2 q b : S8192x80.Idx) = Word.scale (Spec.ratio (colG m c b q)) := by
  obtain ⟨n, l, rfl⟩ := exists_col q
  rw [final6]
  have hb : b.val < cfg0.N := lt_of_lt_of_eq b.isLt N_eq.symm
  show csT (vt (xb m c ⟨b.val, hb⟩) (grp (at128 n l))) (vt (gb m c ⟨b.val, hb⟩) (grp (at128 n l))) (ix2 0 (lane (at128 n l))) = _
  rw [grp_at, lane_at, csT_at, colOf_eq m c ⟨b.val, hb⟩ b rfl]

/-- One block's part of a running sum. -/
def part (u : Fin 8) (q : Fin 8192) (b : Fin 80) : EReal :=
  ∑ k : Fin 16, ent m c (row128 b ⟨k.val * 8 + u.val, by omega⟩) q

theorem sumB_at (t : Fin cfg0.N) (b : Fin 80) (h : t.val = b.val) (old : Vec Ideal S8x8192 .f32) (u : Fin 8) (q : Fin 8192) :
    sumB (xb m c t) (gb m c t) old (ix2 u q) = old (ix2 u q) + part m c u q b := by
  obtain ⟨n, l, rfl⟩ := exists_col q
  show k0_pay8 (vt (xb m c t) (grp (at128 n l))) (vt (gb m c t) (grp (at128 n l))) (vs old (grp (at128 n l)))
    (ix2 u (lane (at128 n l))) = _
  rw [grp_at, lane_at, sum_at]
  congr 1
  · show old (ix2 u ⟨128 * n.val + l.val, _⟩) = _
    exact congrArg old (congrArg (ix2 u) (Fin.ext (by show 128 * n.val + l.val = n.val * 128 + l.val; omega)))
  · refine Finset.sum_congr rfl fun k _ => ?_
    rw [entry_at]
    exact tile_ent m c t n _ _ l (by show b.val * 128 + (k.val * 8 + u.val) = 128 * t.val + (k.val * 8 + u.val); omega)

/-- The running sums are of all blocks so far. -/
theorem sumAt_at (n : ℕ) (h : n < cfg0.N) (u : Fin 8) (q : Fin 8192) :
    sumAt m c n h (ix2 u q)
      = ∑ b : Fin (n + 1), part m c u q ⟨b.val, by have := N_eq; omega⟩ := by
  induction n with
  | zero =>
    show sumB (xb m c ⟨0, h⟩) (gb m c ⟨0, h⟩) (k0_pay1 (F := Ideal)) (ix2 u q) = _
    rw [sumB_at m c ⟨0, h⟩ 0 rfl, zero_at, zero_add, Fin.sum_univ_one]
    rfl
  | succ n ih =>
    show sumB (xb m c ⟨n + 1, h⟩) (gb m c ⟨n + 1, h⟩) (sumAt m c n (Nat.lt_of_succ_lt h)) (ix2 u q) = _
    rw [sumB_at m c ⟨n + 1, h⟩ ⟨n + 1, by have := N_eq; omega⟩ rfl, ih, Fin.sum_univ_castSucc (n := n + 1)]
    rfl

/-- A column's sum, block by block. -/
def total (q : Fin 8192) : EReal := ∑ b : Fin 80, ∑ k : Fin 128, ent m c (row128 b k) q

/-- and the bias gradient. -/
theorem val2 (q : Fin 8192) : (dats m 0 c).arrAt 2 cfg0.N (ix2 0 q : S1x8192.Idx) = total m c q := by
  have h : ∀ u : Fin 8, sumAt m c 79 last.isLt (ix2 u q) = ∑ b : Fin 80, part m c u q b := fun u => sumAt_at m c 79 last.isLt u q
  refine (final2 m c _).trans ((total_at _ q).trans ?_)
  simp only [h]
  rw [Finset.sum_comm]
  exact Finset.sum_congr rfl fun b _ => sum_rows fun k => ent m c (row128 b k) q

end Cert.Proof.Run
-- ==== Proof.RefHost.lean ====
/- The reference's host arrays as functions of the array of gradients: each is what the host operations compute from
   the gradients' array, read off the program. -/
module

public import Idealize.ShloMosaic.Lib.StableHlo.ReadAt
public import Idealize.ShloMosaic.Lib.Pointwise
public import proofs.«01_k».proof.Proof.Gen.ReferenceIdeal.Value

@[expose] public section

noncomputable section

namespace Cert.Proof.Ref

open Idealize.ShloMosaic Idealize.SL.Sem Cert.ReferenceIdeal Cert.ReferenceIdeal.Gen
open Idealize.ShloMosaic.TcCoe

variable {F : FTy → Type} [FloatOps F]

/-- The rows' groups: their greatest magnitudes over the greatest code. -/
def rowRatio (d : Vec F S10240x8192 .f32) : Vec F S10240x64 .f32 :=
  mulf (Host.reduce FloatOps.maximumf (Host.absf (shapeCast S10240x64x128 d shapeCasts_S10240x8192_S10240x64x128))
      (constant S_ .f32 0xFF800000#32) reducesTo_S10240x64x128_S10240x64_d2 h_S_)
    (broadcastInDim S10240x64 ![] bcast_S_S10240x64 (constant S_ .f32 0x37924925#32))

/-- The columns' groups: their greatest magnitudes over the greatest code. -/
def colRatio (d : Vec F S10240x8192 .f32) : Vec F S80x8192 .f32 :=
  mulf (Host.reduce FloatOps.maximumf (Host.absf (shapeCast S80x128x8192 d shapeCasts_S10240x8192_S80x128x8192))
      (constant S_ .f32 0xFF800000#32) reducesTo_S80x128x8192_S80x8192_d1 h_S_)
    (broadcastInDim S80x8192 ![] bcast_S_S80x8192 (constant S_ .f32 0x37924925#32))

/-- The exponents of an array of ratios. -/
def expo {s : Shape} (b : S_.BroadcastsInDim s (![] : Fin 0 → Fin s.rank)) (p : Vec F s .f32) : Vec F s .f32 :=
  select (andi (cmpf .oge p (broadcastInDim s ![] b (constant S_ .f32 0x00800000#32)))
      (cmpf .olt p (broadcastInDim s ![] b (constant S_ .f32 0x7F800000#32))))
    (addf (Host.floor (Host.divf (Host.log p) (broadcastInDim s ![] b (Host.log (constant S_ .f32 0x40000000#32)))))
      (broadcastInDim s ![] b (constant S_ .f32 0x3F800000#32)))
    (broadcastInDim s ![] b (constant S_ .f32 0x00000000#32))

/-- Two to the power of the exponents. -/
def pow2 {s : Shape} (b : S_.BroadcastsInDim s (![] : Fin 0 → Fin s.rank)) (e : Vec F s .f32) : Vec F s .f32 :=
  Host.exp (mulf e (broadcastInDim s ![] b (Host.log (constant S_ .f32 0x40000000#32))))

/-- The rows' scales. -/
def rowScale (d : Vec F S10240x8192 .f32) : Vec F S10240x64 .f32 :=
  pow2 bcast_S_S10240x64 (expo bcast_S_S10240x64 (rowRatio d))

/-- The columns' scales. -/
def colScale (d : Vec F S10240x8192 .f32) : Vec F S80x8192 .f32 :=
  pow2 bcast_S_S80x8192 (expo bcast_S_S80x8192 (colRatio d))

/-- The entries over their row group's scale, clipped. -/
def rows (d : Vec F S10240x8192 .f32) : Vec F S10240x8192 .f32 :=
  shapeCast S10240x8192
    (minimumf (broadcastInDim S10240x64x128 ![] bcast_S_S10240x64x128 (constant S_ .f32 0x47600000#32))
      (maximumf (broadcastInDim S10240x64x128 ![] bcast_S_S10240x64x128 (constant S_ .f32 0xC7600000#32))
        (mulf (shapeCast S10240x64x128 d shapeCasts_S10240x8192_S10240x64x128)
          (broadcastInDim S10240x64x128 ![0, 1, 2] bcast_S10240x64x1_S10240x64x128_0_1_2
            (broadcastInDim S10240x64x1 ![0, 1] bcast_S10240x64_S10240x64x1_0_1
              (pow2 bcast_S_S10240x64 (Host.negf (expo bcast_S_S10240x64 (rowRatio d)))))))))
    shapeCasts_S10240x64x128_S10240x8192

/-- The entries over their column group's scale, clipped. -/
def cols (d : Vec F S10240x8192 .f32) : Vec F S10240x8192 .f32 :=
  shapeCast S10240x8192
    (minimumf (broadcastInDim S80x128x8192 ![] bcast_S_S80x128x8192 (constant S_ .f32 0x47600000#32))
      (maximumf (broadcastInDim S80x128x8192 ![] bcast_S_S80x128x8192 (constant S_ .f32 0xC7600000#32))
        (mulf (shapeCast S80x128x8192 d shapeCasts_S10240x8192_S80x128x8192)
          (broadcastInDim S80x128x8192 ![0, 1, 2] bcast_S80x1x8192_S80x128x8192_0_1_2
            (broadcastInDim S80x1x8192 ![0, 2] bcast_S80x8192_S80x1x8192_0_2
              (pow2 bcast_S_S80x8192 (Host.negf (expo bcast_S_S80x8192 (colRatio d)))))))))
    shapeCasts_S80x128x8192_S10240x8192

/-- The sum over the rows, each block of 128 rows first. -/
def total (d : Vec F S10240x8192 .f32) : Vec F S1x8192 .f32 :=
  broadcastInDim S1x8192 ![1] bcast_S8192_S1x8192_1
    (Host.reduceAdd (Host.reduceAdd (shapeCast S80x128x8192 d shapeCasts_S10240x8192_S80x128x8192)
        (constant S_ .f32 0x00000000#32) reducesTo_S80x128x8192_S80x8192_d1 h_S_)
      (constant S_ .f32 0x00000000#32) reducesTo_S80x8192_S8192_d0 h_S_)

variable (m : (ℓ : Loc nD τ sig) → Buf (Elt F) ℓ) (c : Dev nD)

/-- The array of gradients before the activation. -/
def grads : Vec F S10240x8192 .f32 := V m c main_v30

theorem read_rowScale : (V m c main_v56 : Vec F S10240x64 .f32) = rowScale (grads m c) := by
  unfold grads V rowScale pow2 expo rowRatio
  after_reads_simp
  simp -implicitDefEqProofs only [StableHlo.TRef.toBuf, StableHlo.TRef.ofBuf, cast_cast, cast_eq]
  rfl

theorem read_rows : (V m c main_v66 : Vec F S10240x8192 .f32) = rows (grads m c) := by
  unfold grads V rows pow2 expo rowRatio
  after_reads_simp
  simp -implicitDefEqProofs only [StableHlo.TRef.toBuf, StableHlo.TRef.ofBuf, cast_cast, cast_eq]
  rfl

theorem read_cols : (V m c main_v98 : Vec F S8192x10240 .f32) = transpose S8192x10240 [1, 0] (cols (grads m c)) transposes_S10240x8192_S8192x10240_1_0 := by
  unfold grads V cols pow2 expo colRatio
  after_reads_simp
  simp -implicitDefEqProofs only [StableHlo.TRef.toBuf, StableHlo.TRef.ofBuf, cast_cast, cast_eq]
  rfl

theorem read_colScale : (V m c main_v99 : Vec F S8192x80 .f32) = transpose S8192x80 [1, 0] (colScale (grads m c)) transposes_S80x8192_S8192x80_1_0 := by
  unfold grads V colScale pow2 expo colRatio
  after_reads_simp
  simp -implicitDefEqProofs only [StableHlo.TRef.toBuf, StableHlo.TRef.ofBuf, cast_cast, cast_eq]
  rfl

theorem read_total : (V m c main_v34 : Vec F S1x8192 .f32) = total (grads m c) := by
  unfold grads V total
  after_reads_simp
  rfl

end Cert.Proof.Ref
-- ==== Proof.RefRun.lean ====
/- The reference's run: its five results, from the array of the gradient before the activation. -/
module

public import proofs.«01_k».proof.Proof.RefHost
public import proofs.«01_k».proof.Proof.Gen.ReferenceIdeal.Value

@[expose] public section

set_option maxRecDepth 16384

noncomputable section

namespace Cert.Proof.Ref

open Cert.ReferenceIdeal Cert.ReferenceIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem run : θ_run defs (onTc (τ := τ) (main (F := F))) ⟨m, fun _ => 0, ρ⟩ fun r => ∀ c : Dev nD,
      r.2.mem ((c : Thread nD τ).loc main_v34) = V m c main_v34
      ∧ r.2.mem ((c : Thread nD τ).loc main_v100_0) = (dats m 0 c).arrAt 2 cfg0.N
      ∧ r.2.mem ((c : Thread nD τ).loc main_v56) = V m c main_v56
      ∧ r.2.mem ((c : Thread nD τ).loc main_v100_1) = (dats m 0 c).arrAt 3 cfg0.N
      ∧ r.2.mem ((c : Thread nD τ).loc main_v99) = V m c main_v99
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨
      (h c).2 main_v34 (Pipeline.mem_restRefs_of main_v34 (by decide) (by decide)),
      Value.post2 m r h c,
      (h c).2 main_v56 (Pipeline.mem_restRefs_of main_v56 (by decide) (by decide)),
      Value.post3 m r h c,
      (h c).2 main_v99 (Pipeline.mem_restRefs_of main_v99 (by decide) (by decide)),
      Value.kept_main_arg0 m r h c,
      Value.kept_main_arg1 m r h c⟩) (run_main m ρ)

end Cert.Proof.Ref
-- ==== Proof.RefAt.lean ====
/- The reference's results at an entry, over the extended reals. -/
module

public import proofs.«01_k».proof.Proof.RefHost
public import proofs.«01_k».proof.Proof.Spec

@[expose] public section

noncomputable section

namespace Cert.Proof.Ref

open Idealize.ShloMosaic Idealize.SL.Sem Cert.ReferenceIdeal Cert.ReferenceIdeal.Gen Spec
open Idealize.ShloMosaic.TcCoe

theorem mulf_at {s : Shape} (x y : Vec Ideal s .f32) (i : s.Idx) : mulf (F := Ideal) (φ := .f32) x y i = x i * y i := rfl

theorem absf_at {s : Shape} (x : Vec Ideal s .f32) (i : s.Idx) :
    Host.absf (F := Ideal) (φ := .f32) x i = FloatOps.absf (F := Ideal) (φ := .f32) (x i) := rfl

theorem negf_at {s : Shape} (x : Vec Ideal s .f32) (i : s.Idx) : Host.negf (F := Ideal) (φ := .f32) x i = -x i := rfl

theorem splat_at {s : Shape} (h : S_.BroadcastsInDim s (![] : Fin 0 → Fin s.rank)) (b : BitVec 32) (i : s.Idx) :
    broadcastInDim s ![] h (constant (F := Ideal) S_ .f32 b) i = Ideal.ofBits .f32 b := rfl

theorem clip_at {s : Shape} (h : S_.BroadcastsInDim s (![] : Fin 0 → Fin s.rank)) (x : Vec Ideal s .f32) (i : s.Idx) :
    minimumf (F := Ideal) (φ := .f32) (broadcastInDim s ![] h (constant (F := Ideal) S_ .f32 0x47600000#32))
      (maximumf (broadcastInDim s ![] h (constant (F := Ideal) S_ .f32 0xC7600000#32)) x) i = clip (x i) := rfl

theorem expo_at {s : Shape} (h : S_.BroadcastsInDim s (![] : Fin 0 → Fin s.rank)) (p : Vec Ideal s .f32) (i : s.Idx) :
    expo (F := Ideal) h p i = Spec.expo (p i) := by
  unfold expo Spec.expo
  pointwise
  by_cases h1 : Ideal.ofBits .f32 0x00800000#32 ≤ p i <;> by_cases h2 : p i < Ideal.ofBits .f32 0x7F800000#32 <;>
    simp [h1, h2, Scalar.select, IntOp.andi]

theorem pow2_at {s : Shape} (h : S_.BroadcastsInDim s (![] : Fin 0 → Fin s.rank)) (p : Vec Ideal s .f32) (i : s.Idx) :
    pow2 (F := Ideal) h p i = Spec.pow2 (p i) := by
  unfold pow2 Spec.pow2
  pointwise

theorem max_last (x : Vec Ideal S10240x64x128 .f32) (r : Fin 10240) (n : Fin 64) :
    Host.reduce FloatOps.maximumf x (constant S_ .f32 0xFF800000#32) reducesTo_S10240x64x128_S10240x64_d2 h_S_ (ix2 r n)
      = Finset.univ.fold max (Ideal.ofBits .f32 0xFF800000#32) fun k : Fin 128 => x (ix3 r n k) := by
  pointwise

theorem max_mid (x : Vec Ideal S80x128x8192 .f32) (b : Fin 80) (q : Fin 8192) :
    Host.reduce FloatOps.maximumf x (constant S_ .f32 0xFF800000#32) reducesTo_S80x128x8192_S80x8192_d1 h_S_ (ix2 b q)
      = Finset.univ.fold max (Ideal.ofBits .f32 0xFF800000#32) fun k : Fin 128 => x (ix3 b k q) := by
  pointwise

theorem spreadRow_at (x : Vec Ideal S10240x64 .f32) (r : Fin 10240) (n : Fin 64) (k : Fin 128) :
  (broadcastInDim S10240x64x128 ![0, 1, 2] bcast_S10240x64x1_S10240x64x128_0_1_2
            (broadcastInDim S10240x64x1 ![0, 1] bcast_S10240x64_S10240x64x1_0_1 x)) (ix3 r n k) = x (ix2 r n) := by
  pointwise

theorem spreadCol_at (x : Vec Ideal S80x8192 .f32) (b : Fin 80) (k : Fin 128) (q : Fin 8192) :
  (broadcastInDim S80x128x8192 ![0, 1, 2] bcast_S80x1x8192_S80x128x8192_0_1_2
            (broadcastInDim S80x1x8192 ![0, 2] bcast_S80x8192_S80x1x8192_0_2 x)) (ix3 b k q) = x (ix2 b q) := by
  pointwise

theorem foldRow_at (x : Vec Ideal S10240x64x128 .f32) (r : Fin 10240) (q : Fin 8192) :
  shapeCast S10240x8192 x shapeCasts_S10240x64x128_S10240x8192 (ix2 r q) = x (ix3 r ⟨q.val / 128, by omega⟩ ⟨q.val % 128, by omega⟩) := by
  pointwise

theorem foldCol_at (x : Vec Ideal S80x128x8192 .f32) (r : Fin 10240) (q : Fin 8192) :
  shapeCast S10240x8192 x shapeCasts_S80x128x8192_S10240x8192 (ix2 r q) = x (ix3 ⟨r.val / 128, by omega⟩ ⟨r.val % 128, by omega⟩ q) := by
  pointwise

theorem unfoldRow_at (d : Vec Ideal S10240x8192 .f32) (r : Fin 10240) (n : Fin 64) (k : Fin 128) :
    shapeCast S10240x64x128 d shapeCasts_S10240x8192_S10240x64x128 (ix3 r n k) = d (ix2 r ⟨n.val * 128 + k.val, by omega⟩) := by
  pointwise

theorem unfoldCol_at (d : Vec Ideal S10240x8192 .f32) (b : Fin 80) (k : Fin 128) (q : Fin 8192) :
    shapeCast S80x128x8192 d shapeCasts_S10240x8192_S80x128x8192 (ix3 b k q) = d (ix2 ⟨b.val * 128 + k.val, by omega⟩ q) := by
  pointwise

variable (d : Vec Ideal S10240x8192 .f32)

theorem rowRatio_apply (r : Fin 10240) (n : Fin 64) :
    rowRatio d (ix2 r n) = ratio (fun k => d (ix2 r ⟨n.val * 128 + k.val, by omega⟩)) := by
  rw [rowRatio, mulf_at, max_last, splat_at, ratio, peak]
  exact congrArg (fun f : Fin 128 → EReal => Finset.univ.fold max _ f * _)
    (funext fun k => congrArg (FloatOps.absf (F := Ideal) (φ := .f32)) (unfoldRow_at d r n k))

theorem colRatio_apply (b : Fin 80) (q : Fin 8192) :
    colRatio d (ix2 b q) = ratio (fun k => d (ix2 ⟨b.val * 128 + k.val, by omega⟩ q)) := by
  rw [colRatio, mulf_at, max_mid, splat_at, ratio, peak]
  exact congrArg (fun f : Fin 128 → EReal => Finset.univ.fold max _ f * _)
    (funext fun k => congrArg (FloatOps.absf (F := Ideal) (φ := .f32)) (unfoldCol_at d b k q))

theorem rowScale_apply (r : Fin 10240) (n : Fin 64) :
    rowScale d (ix2 r n) = scale (ratio (fun k => d (ix2 r ⟨n.val * 128 + k.val, by omega⟩))) := by
  rw [rowScale, pow2_at, expo_at, rowRatio_apply, scale]

theorem colScale_apply (b : Fin 80) (q : Fin 8192) :
    colScale d (ix2 b q) = scale (ratio (fun k => d (ix2 ⟨b.val * 128 + k.val, by omega⟩ q))) := by
  rw [colScale, pow2_at, expo_at, colRatio_apply, scale]

theorem rows_apply (r : Fin 10240) (n : Fin 64) (k : Fin 128) :
    rows d (ix2 r ⟨n.val * 128 + k.val, by omega⟩)
      = clip (d (ix2 r ⟨n.val * 128 + k.val, by omega⟩)
          * invScale (ratio (fun k => d (ix2 r ⟨n.val * 128 + k.val, by omega⟩)))) := by
  rw [rows, foldRow_at, clip_at, mulf_at]
  have e : (ix3 r ⟨(n.val * 128 + k.val) / 128, by omega⟩ ⟨(n.val * 128 + k.val) % 128, by omega⟩ : S10240x64x128.Idx)
      = ix3 r n k := by
    congr 1 <;> ext <;> simp only [] <;> omega
  simp only [e]
  rw [spreadRow_at, unfoldRow_at, pow2_at, negf_at, expo_at, rowRatio_apply, invScale]

theorem cols_apply (b : Fin 80) (k : Fin 128) (q : Fin 8192) :
    cols d (ix2 ⟨b.val * 128 + k.val, by omega⟩ q)
      = clip (d (ix2 ⟨b.val * 128 + k.val, by omega⟩ q)
          * invScale (ratio (fun k => d (ix2 ⟨b.val * 128 + k.val, by omega⟩ q)))) := by
  rw [cols, foldCol_at, clip_at, mulf_at]
  have e : (ix3 ⟨(b.val * 128 + k.val) / 128, by omega⟩ ⟨(b.val * 128 + k.val) % 128, by omega⟩ q : S80x128x8192.Idx)
      = ix3 b k q := by
    congr 1 <;> ext <;> simp only [] <;> omega
  simp only [e]
  rw [spreadCol_at, unfoldCol_at, pow2_at, negf_at, expo_at, colRatio_apply, invScale]

theorem total_apply (q : Fin 8192) :
    total d (ix2 0 q) = ∑ b : Fin 80, ∑ k : Fin 128, d (ix2 ⟨b.val * 128 + k.val, by omega⟩ q) := by
  unfold total
  pointwise

/-- An entry of the array of gradients, of the arguments. -/
theorem grads_apply (m : (ℓ : Loc nD τ sig) → Buf (Elt Ideal) ℓ) (c : Dev nD) (r : Fin 10240) (q : Fin 8192) :
    grads m c (ix2 r q) = entry ((m ((c : Thread nD τ).loc main_arg0) : Vec Ideal S10240x8192 .bf16) (ix2 r q))
      ((m ((c : Thread nD τ).loc main_arg1) : Vec Ideal S10240x8192 .bf16) (ix2 r q)) := by
  unfold grads V
  after_reads_at
  simp only [entry, dgelu, arg, kk, cc, half, three]

end Cert.Proof.Ref
-- ==== Proof.RefVal.lean ====
/- The reference's two arrays of codes, entry by entry: the clipped arrays that it hands to its last step, which narrows them
   and is the identity over the extended reals. -/
module

public import proofs.«01_k».proof.Proof.RefRun
public import proofs.«01_k».proof.Proof.RefAt

@[expose] public section

set_option maxRecDepth 16384

noncomputable section

namespace Cert.Proof.Ref

open Cert.ReferenceIdeal Cert.ReferenceIdeal.Gen
open Idealize.ShloMosaic Idealize.ShloMosaic.TcCoe

variable (m : (ℓ : Loc nD τ sig) → Buf (Elt Ideal) ℓ) (c : Dev nD)

/-- The one point. -/
def only : Fin cfg0.N := ⟨0, by decide⟩

theorem index0 : ∀ a, win0_0.index only a = 0 := by decide
theorem index1 : ∀ a, win0_1.index only a = 0 := by decide
theorem index2 : ∀ a, win0_2.index only a = 0 := by decide
theorem index3 : ∀ a, win0_3.index only a = 0 := by decide

theorem block0 (y : S10240x8192.Idx) : (iblk m c 0 only : S10240x8192.Idx → EReal) y = V m c main_v66 y := by
  show V m c (Pipeline.arrRef spec0 0) (((cfg0.win 0).blk only).view.emb y) = _
  have he : (((cfg0.win 0).blk only).view.emb y : S10240x8192.Idx) = y := by
    funext a; apply Fin.ext
    match a with
    | ⟨0, _⟩ => show win0_0.index only (0 : Fin 2) * 10240 + 1 * (y 0).val = (y 0).val; rw [index0]; omega
    | ⟨1, _⟩ => show win0_0.index only (1 : Fin 2) * 8192 + 1 * (y 1).val = (y 1).val; rw [index0]; omega
  rw [he]

theorem block1 (y : S8192x10240.Idx) : (iblk m c 1 only : S8192x10240.Idx → EReal) y = V m c main_v98 y := by
  show V m c (Pipeline.arrRef spec0 1) (((cfg0.win 1).blk only).view.emb y) = _
  have he : (((cfg0.win 1).blk only).view.emb y : S8192x10240.Idx) = y := by
    funext a; apply Fin.ext
    match a with
    | ⟨0, _⟩ => show win0_1.index only (0 : Fin 2) * 8192 + 1 * (y 0).val = (y 0).val; rw [index1]; omega
    | ⟨1, _⟩ => show win0_1.index only (1 : Fin 2) * 10240 + 1 * (y 1).val = (y 1).val; rw [index1]; omega
  rw [he]

theorem at2 (y : S10240x8192.Idx) : r0_0.idx (Value.ix2_0 y) = y := by
  funext a; apply Fin.ext
  match a with
  | ⟨0, _⟩ => show 0 + 1 * (y 0).val = (y 0).val; omega
  | ⟨1, _⟩ => show 0 + 1 * (y 1).val = (y 1).val; omega

theorem at3 (y : S8192x10240.Idx) : r0_1.idx (Value.ix3_0 y) = y := by
  funext a; apply Fin.ext
  match a with
  | ⟨0, _⟩ => show 0 + 1 * (y 0).val = (y 0).val; omega
  | ⟨1, _⟩ => show 0 + 1 * (y 1).val = (y 1).val; omega

/-- The row codes. -/
theorem final2 (i : S10240x8192.Idx) : (dats m 0 c).arrAt 2 cfg0.N i = rows (grads m c) i := by
  have h := congrFun (Value.blocks2 m c only (by decide)) i
  have he : (((cfg0.win 2).blk only).view.emb i : S10240x8192.Idx) = i := by
    funext a; apply Fin.ext
    match a with
    | ⟨0, _⟩ => show win0_2.index only (0 : Fin 2) * 10240 + 1 * (i 0).val = (i 0).val; rw [index2]; omega
    | ⟨1, _⟩ => show win0_2.index only (1 : Fin 2) * 8192 + 1 * (i 1).val = (i 1).val; rw [index2]; omega
  refine ((congrArg _ he).symm.trans h).trans ?_
  show (dats m 0 c).after 2 only _ = _
  rw [after0_2, out0_2]
  refine (Value.canon2_eq _ _).trans ?_
  show (iblk m c 0 only : S10240x8192.Idx → EReal) (r0_0.idx (Value.ix2_0 i)) = _
  rw [at2, block0, read_rows]

/-- The column codes. -/
theorem final3 (i : S8192x10240.Idx) :
    (dats m 0 c).arrAt 3 cfg0.N i
      = transpose S8192x10240 [1, 0] (cols (grads m c)) transposes_S10240x8192_S8192x10240_1_0 i := by
  have h := congrFun (Value.blocks3 m c only (by decide)) i
  have he : (((cfg0.win 3).blk only).view.emb i : S8192x10240.Idx) = i := by
    funext a; apply Fin.ext
    match a with
    | ⟨0, _⟩ => show win0_3.index only (0 : Fin 2) * 8192 + 1 * (i 0).val = (i 0).val; rw [index3]; omega
    | ⟨1, _⟩ => show win0_3.index only (1 : Fin 2) * 10240 + 1 * (i 1).val = (i 1).val; rw [index3]; omega
  refine ((congrArg _ he).symm.trans h).trans ?_
  show (dats m 0 c).after 3 only _ = _
  rw [after0_3, out0_3]
  refine (Value.canon3_eq _ _).trans ?_
  show (iblk m c 1 only : S8192x10240.Idx → EReal) (r0_1.idx (Value.ix3_0 i)) = _
  rw [at3, block1, read_cols]

theorem turnRows {η : EltTy} (v : Vec Ideal S10240x8192 η) (q : Fin 8192) (r : Fin 10240) :
    transpose S8192x10240 [1, 0] v transposes_S10240x8192_S8192x10240_1_0 (ix2 q r) = v (ix2 r q) := by
  pointwise

theorem turnScales {η : EltTy} (v : Vec Ideal S80x8192 η) (q : Fin 8192) (b : Fin 80) :
    transpose S8192x80 [1, 0] v transposes_S80x8192_S8192x80_1_0 (ix2 q b) = v (ix2 b q) := by
  pointwise

end Cert.Proof.Ref
-- ==== Proof.Pow.lean ====
/- The exponent's word, found bit by bit, is the exponent that the reference finds by logarithm; so are the scales. -/
module

public import Idealize.ShloMosaic.Lib.Pointwise
public import proofs.«01_k».proof.Proof.Spec
public import proofs.«01_k».proof.Proof.Word

@[expose] public section

noncomputable section

namespace Cert.Proof.Pow

open Idealize.ShloMosaic Word

/-- The word of exponent field `n` -/
def wd (n : ℕ) : BitVec 32 := BitVec.ofNat 32 (n * 8388608)
/-- and the number it denotes. -/
def val (n : ℕ) : EReal := Ideal.ofBits .f32 (wd n)

theorem wd_exp (n : ℕ) (h : n < 256) : ((wd n).extractLsb' 23 8).toNat = n := by
  rw [BitVec.extractLsb'_toNat, wd, BitVec.toNat_ofNat, Nat.shiftRight_eq_div_pow]
  omega

theorem wd_frac (n : ℕ) : ((wd n).extractLsb' 0 23).toNat = 0 := by
  rw [BitVec.extractLsb'_toNat, wd, BitVec.toNat_ofNat, Nat.shiftRight_eq_div_pow]
  omega

theorem wd_sign (n : ℕ) (h : n < 256) : ((wd n).extractLsb' (8 + 23) 1 == 1#1) = false := by
  rw [beq_eq_false_iff_ne]
  intro hh
  have := congrArg BitVec.toNat hh
  rw [BitVec.extractLsb'_toNat, wd, BitVec.toNat_ofNat, Nat.shiftRight_eq_div_pow] at this
  rw [show (1#1).toNat = 1 by rfl] at this
  omega

theorem val_eq (n : ℕ) (h : n < 256) :
    val n = if n = 255 then ⊤ else if n = 0 then 0 else (((2 : ℝ) ^ ((n : ℤ) - 127) : ℝ) : EReal) := by
  unfold val
  show Ideal.ieee 8 23 (wd n) = _
  unfold Ideal.ieee
  rw [wd_exp n h, wd_frac n, wd_sign n h]
  by_cases h1 : n = 255
  · simp [h1]
  by_cases h2 : n = 0
  · simp [h2]
  have h3 : ¬ n = 2 ^ 8 - 1 := by omega
  simp only [h1, h2, h3, if_false]
  congr 1
  rw [show ((n : ℤ) - 127) = ((n : ℤ) - 127 - 23) + 23 by ring, zpow_add₀ (by norm_num)]
  push_cast
  norm_num
  ring

theorem val_zero : val 0 = 0 := by
  rw [val_eq _ (by norm_num)]; norm_num
theorem val_top : val 255 = ⊤ := by
  rw [val_eq _ (by norm_num)]; norm_num
theorem val_mid (n : ℕ) (h0 : 0 < n) (h : n < 255) : val n = (((2 : ℝ) ^ ((n : ℤ) - 127) : ℝ) : EReal) := by
  rw [val_eq _ (by omega), if_neg (by omega), if_neg (by omega)]

theorem wd_add (a b : ℕ) : wd a + wd b = wd (a + b) := by
  unfold wd; rw [← BitVec.ofNat_add, Nat.add_mul]

/-- What is known after the bits above bit `k`. -/
def Known (p : EReal) (k : ℕ) (e : BitVec 32) : Prop :=
  ∃ n : ℕ, e = wd n ∧ n + 2 ^ k ≤ 256 ∧ val n ≤ p ∧ (n + 2 ^ k < 256 → p < val (n + 2 ^ k))

theorem Known.step {p : EReal} {k : ℕ} {e : BitVec 32} (h : Known p (k + 1) e) : Known p k (probe p (wd (2 ^ k)) e) := by
  obtain ⟨n, rfl, h1, h2, h3⟩ := h
  have hk : 2 ^ (k + 1) = 2 ^ k + 2 ^ k := by ring
  have hp : 0 < 2 ^ k := by positivity
  unfold probe
  rw [wd_add]
  by_cases hv : val (n + 2 ^ k) ≤ p
  · rw [if_pos (by exact hv)]
    refine ⟨n + 2 ^ k, rfl, by omega, hv, fun h => ?_⟩
    rw [show n + 2 ^ k + 2 ^ k = n + 2 ^ (k + 1) by omega]
    exact h3 (by omega)
  · rw [if_neg (by exact hv)]
    exact ⟨n, rfl, by omega, h2, fun _ => lt_of_not_ge hv⟩

/-- The word found is that of the greatest field whose number is at most `p`. -/
theorem word_spec (p : EReal) (hp : 0 ≤ p) :
    ∃ n : ℕ, word p = wd n ∧ n < 256 ∧ val n ≤ p ∧ (n < 255 → p < val (n + 1)) := by
  have h : Known p 8 (0#32) := ⟨0, rfl, by norm_num, by rw [val_zero]; exact hp, by norm_num⟩
  obtain ⟨n, h1, h2, h3, h4⟩ := h.step.step.step.step.step.step.step.step
  exact ⟨n, h1, by omega, h3, fun h => h4 (by omega)⟩

theorem two_eq : Ideal.ofBits .f32 0x40000000#32 = ((2 : ℝ) : EReal) := by
  simp [Ideal.ofBits, Ideal.ieee, -EReal.coe_mul]; norm_num

theorem pow2_int (z : ℤ) : Spec.pow2 ((z : ℝ) : EReal) = (((2 : ℝ) ^ z : ℝ) : EReal) := by
  unfold Spec.pow2
  rw [two_eq, Ideal.log_coe, if_neg (by norm_num), ← EReal.coe_mul, Ideal.exp_coe, mul_comm,
    ← Real.rpow_def_of_pos (by norm_num), Real.rpow_intCast]

theorem low_eq : Ideal.ofBits .f32 0x00800000#32 = val 1 := by
  rfl
theorem high_eq : Ideal.ofBits .f32 0x7F800000#32 = ⊤ := by
  exact val_top

/-- The exponent of a number between two neighbouring powers of two. -/
theorem expo_mid (p : EReal) (n : ℕ) (h0 : 0 < n) (h : n < 254) (hl : val n ≤ p) (hu : p < val (n + 1)) :
    Spec.expo p = (((n : ℤ) - 126 : ℤ) : ℝ) := by
  rw [val_mid n h0 (by omega)] at hl
  rw [val_mid (n + 1) (by omega) (by omega)] at hu
  induction p with
  | bot => exact absurd hl (by simp)
  | top => exact absurd hu (by simp)
  | coe r =>
    have hl' : (2 : ℝ) ^ ((n : ℤ) - 127) ≤ r := by exact_mod_cast hl
    have hu' : r < (2 : ℝ) ^ (((n + 1 : ℕ) : ℤ) - 127) := by exact_mod_cast hu
    have hr : 0 < r := lt_of_lt_of_le (by positivity) hl'
    have hlog : (0 : ℝ) < Real.log 2 := Real.log_pos (by norm_num)
    have hmin : (2 : ℝ) ^ (((1 : ℕ) : ℤ) - 127) ≤ (2 : ℝ) ^ ((n : ℤ) - 127) :=
      zpow_le_zpow_right₀ (by norm_num) (by push_cast; omega)
    have hfl : ⌊Real.log r * (Real.log 2)⁻¹⌋ = (n : ℤ) - 127 := by
      rw [Int.floor_eq_iff, ← div_eq_mul_inv, le_div_iff₀ hlog, div_lt_iff₀ hlog]
      constructor
      · have := Real.log_le_log (by positivity) hl'
        rwa [Real.log_zpow] at this
      · have := Real.log_lt_log hr hu'
        rw [Real.log_zpow] at this
        refine lt_of_lt_of_eq this ?_
        push_cast; ring
    unfold Spec.expo
    rw [if_pos ⟨by rw [low_eq, val_mid 1 (by norm_num) (by norm_num)]; exact_mod_cast hmin.trans hl',
      by rw [high_eq]; exact EReal.coe_lt_top r⟩, two_eq, Ideal.log_coe, if_neg (by linarith), Ideal.log_coe,
      if_neg (by norm_num), Ideal.div, if_neg (by exact_mod_cast hlog.ne'), ← EReal.coe_inv, ← EReal.coe_mul]
    show (((⌊Real.log r * (Real.log 2)⁻¹⌋ : ℤ) : ℝ) : EReal) + 1 = _
    have hz : (((n : ℤ) - 127 : ℤ) : ℝ) + 1 = (((n : ℤ) - 126 : ℤ) : ℝ) := by push_cast; ring
    rw [hfl, ← EReal.coe_one, ← EReal.coe_add, hz]

/-- The exponent of zero and of an infinite ratio is 0. -/
theorem expo_low (p : EReal) (h : p < val 1) : Spec.expo p = ((0 : ℤ) : ℝ) := by
  unfold Spec.expo
  rw [if_neg (by rw [low_eq]; exact fun hh => absurd hh.1 (not_le_of_gt h))]
  simp
theorem expo_top : Spec.expo ⊤ = ((0 : ℤ) : ℝ) := by
  unfold Spec.expo
  rw [if_neg (by rw [high_eq]; exact fun hh => absurd hh.2 (lt_irrefl _))]
  simp

theorem ok_wd (n : ℕ) (h : n < 256) : ok (wd n) = decide (0 < n ∧ n < 255) := by
  have : ∀ n : Fin 256, ok (wd n) = decide (0 < n.val ∧ n.val < 255) := by decide
  exact this ⟨n, h⟩

theorem neg_pow (z : ℤ) : -(((z : ℝ)) : EReal) = (((-z : ℤ) : ℝ) : EReal) := by
  push_cast; rfl

/-- A ratio's bound, or its infinity: what the range of the gradients gives. -/
def Small (p : EReal) : Prop := 0 ≤ p ∧ (p = ⊤ ∨ p < val 253)

theorem both (p : EReal) (h : Small p) : Word.scale p = Spec.scale p ∧ Word.invScale p = Spec.invScale p := by
  obtain ⟨n, h1, h2, h3, h4⟩ := word_spec p h.1
  unfold Word.scale Word.invScale Spec.scale Spec.invScale
  rw [h1, ok_wd n h2]
  rcases h.2 with rfl | hs
  · have : n = 255 := by
      by_contra hne
      exact absurd (h4 (by omega)) (by simp)
    subst this
    rw [expo_top, neg_pow, pow2_int, pow2_int]
    simp
  · have hn : n < 253 := by
      by_contra hge
      have : val 253 ≤ val n := by
        rw [val_mid 253 (by norm_num) (by norm_num)]
        rcases Nat.lt_or_ge n 255 with hh | hh
        · rw [val_mid n (by omega) hh]
          exact_mod_cast (zpow_le_zpow_right₀ (by norm_num) (by push_cast; omega) :
            (2 : ℝ) ^ (((253 : ℕ) : ℤ) - 127) ≤ (2 : ℝ) ^ ((n : ℤ) - 127))
        · rw [show n = 255 by omega, val_top]; exact le_top
      exact absurd hs (not_lt_of_ge (this.trans h3))
    rcases Nat.eq_zero_or_pos n with rfl | h0
    · rw [expo_low p (h4 (by norm_num)), neg_pow, pow2_int, pow2_int]
      simp
    · rw [expo_mid p n h0 (by omega) h3 (h4 (by omega)), neg_pow, pow2_int, pow2_int,
        if_pos (by simp; omega), if_pos (by simp; omega)]
      constructor
      · have : wd n + 8388608#32 = wd (n + 1) := by
          rw [← wd_add]; rfl
        rw [this]
        refine (val_mid (n + 1) (by omega) (by omega)).trans ?_
        congr 2
        push_cast; ring
      · have : 2122317824#32 - wd n = wd (253 - n) := by
          have h5 : wd (253 - n) + wd n = 2122317824#32 := by
            rw [wd_add, Nat.sub_add_cancel (by omega)]; rfl
          rw [← h5, BitVec.add_sub_cancel]
        rw [this]
        refine (val_mid (253 - n) (by omega) (by omega)).trans ?_
        congr 2
        push_cast [Nat.cast_sub (show n ≤ 253 by omega)]; ring

end Cert.Proof.Pow
-- ==== Proof.Range.lean ====
/- Gradients within bfloat16's range give ratios that have a scale of normal range, or are infinite. -/
module

public import proofs.«01_k».proof.Proof.Gelu
public import proofs.«01_k».proof.Proof.Pow

@[expose] public section

noncomputable section

namespace Cert.Proof.Range

open Idealize.ShloMosaic

/-- Bfloat16's greatest number. -/
def top16 : ℝ := 255 * 2 ^ 120

theorem top16_eq : Ideal.ofBits .f32 0x7F7F0000#32 = (top16 : EReal) := by
  simp [Ideal.ofBits, Ideal.ieee, -EReal.coe_mul, top16]; norm_num

/-- The magnitude of an extended real. -/
abbrev mag (x : EReal) : EReal := FloatOps.absf (F := Ideal) (φ := .f32) x

theorem mag_def (x : EReal) : mag x = max x (-x) := by
  rfl

theorem mag_coe (r : ℝ) : mag (r : EReal) = ((|r| : ℝ) : EReal) := by
  rw [mag_def, ← EReal.coe_neg, ← EReal.coe_strictMono.monotone.map_max]
  rfl

theorem mag_nonneg (x : EReal) : 0 ≤ mag x := by
  induction x with
  | bot => rw [mag_def]; simp
  | top => rw [mag_def]; simp
  | coe r => rw [mag_coe]; exact_mod_cast abs_nonneg r

/-- An entry within range: its magnitude is at most four times bfloat16's greatest number, or infinite. -/
def Ok (x : EReal) : Prop := mag x = ⊤ ∨ mag x ≤ ((4 * top16 : ℝ) : EReal)

theorem entry_ok (x g : EReal) (h : mag g ≤ (top16 : EReal) ∨ mag g = ⊤) : Ok (Spec.entry x g) := by
  obtain ⟨r, hr, hb⟩ := Gelu.dgelu_bound x
  have ht : (0 : ℝ) < top16 := by unfold top16; positivity
  unfold Ok Spec.entry
  rw [hr]
  have inf : ∀ y : EReal, y = ⊤ ∨ y = ⊥ → (mag (y * r) = ⊤ ∨ mag (y * r) ≤ ((4 * top16 : ℝ) : EReal)) := by
    intro y hy
    rcases lt_trichotomy r 0 with h0 | h0 | h0
    · rcases hy with rfl | rfl
      · rw [EReal.top_mul_coe_of_neg h0, mag_def]; left; simp
      · rw [EReal.bot_mul_coe_of_neg h0, mag_def]; left; simp
    · right
      rw [h0, EReal.coe_zero, mul_zero, ← EReal.coe_zero, mag_coe, abs_zero]
      exact_mod_cast (by positivity : (0 : ℝ) ≤ 4 * top16)
    · rcases hy with rfl | rfl
      · rw [EReal.top_mul_coe_of_pos h0, mag_def]; left; simp
      · rw [EReal.bot_mul_coe_of_pos h0, mag_def]; left; simp
  induction g with
  | bot => exact inf ⊥ (.inr rfl)
  | top => exact inf ⊤ (.inl rfl)
  | coe s =>
    right
    have hs : |s| ≤ top16 := by
      rcases h with h | h
      · rw [mag_coe] at h; exact_mod_cast h
      · rw [mag_coe] at h; exact absurd h (EReal.coe_ne_top _)
    rw [← EReal.coe_mul, mag_coe]
    have : |s * r| ≤ 4 * top16 := by
      rw [abs_mul]
      calc |s| * |r| ≤ top16 * 4 := mul_le_mul hs hb (abs_nonneg r) ht.le
        _ = 4 * top16 := by ring
    exact_mod_cast this

theorem low : Ideal.ofBits .f32 0xFF800000#32 = ⊥ := by
  simp [Ideal.ofBits, Ideal.ieee]

theorem step_eq : Ideal.ofBits .f32 0x37924925#32 = ((9586981 * 2 ^ (-39 : ℤ) : ℝ) : EReal) := by
  simp [Ideal.ofBits, Ideal.ieee, -EReal.coe_mul]

theorem peak_nonneg (d : Fin 128 → EReal) : 0 ≤ Spec.peak d := by
  unfold Spec.peak
  rw [Finset.le_fold_max]
  exact .inr ⟨0, Finset.mem_univ _, mag_nonneg (d 0)⟩

theorem peak_ok (d : Fin 128 → EReal) (h : ∀ k, Ok (d k)) :
    Spec.peak d = ⊤ ∨ Spec.peak d ≤ ((4 * top16 : ℝ) : EReal) := by
  by_cases ht : ∃ k, mag (d k) = ⊤
  · obtain ⟨k, hk⟩ := ht
    left
    unfold Spec.peak
    rw [← top_le_iff, Finset.le_fold_max]
    exact .inr ⟨k, Finset.mem_univ _, hk.ge⟩
  · right
    unfold Spec.peak
    rw [Finset.fold_max_le]
    refine ⟨by rw [low]; exact bot_le, fun k _ => ?_⟩
    rcases h k with hk | hk
    · exact absurd ⟨k, hk⟩ ht
    · exact hk

/-- The ratio of entries within range. -/
theorem ratio_small (d : Fin 128 → EReal) (h : ∀ k, Ok (d k)) : Pow.Small (Spec.ratio d) := by
  have hc : (0 : ℝ) < 9586981 * 2 ^ (-39 : ℤ) := by positivity
  unfold Pow.Small Spec.ratio
  rw [step_eq]
  refine ⟨mul_nonneg (peak_nonneg d) (by exact_mod_cast hc.le), ?_⟩
  rcases peak_ok d h with hp | hp
  · left; rw [hp, EReal.top_mul_coe_of_pos hc]
  · right
    rw [Pow.val_mid 253 (by norm_num) (by norm_num)]
    refine lt_of_le_of_lt (mul_le_mul_of_nonneg_right hp (by exact_mod_cast hc.le)) ?_
    rw [← EReal.coe_mul]
    have : 4 * top16 * (9586981 * 2 ^ (-39 : ℤ)) < (2 : ℝ) ^ (((253 : ℕ) : ℤ) - 127) := by
      unfold top16; norm_num
    exact_mod_cast this

end Cert.Proof.Range
-- ==== Proof.Match.lean ====
/- The kernel's five results are the reference's, for gradients within range. -/
module

public import proofs.«01_k».proof.Proof.KerVal
public import proofs.«01_k».proof.Proof.RefVal
public import proofs.«01_k».proof.Proof.Range

@[expose] public section

noncomputable section

namespace Cert.Proof.Match

open Idealize.ShloMosaic Idealize.ShloMosaic.TcCoe
open Cert.Proof.Run (ent rowG colG at128 row128)

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The two programs have the same arguments. -/
def Same (c : Dev Cert.KernelIdeal.nD) : Prop :=
  m' ((c : Thread Cert.ReferenceIdeal.nD Cert.ReferenceIdeal.τ).loc Cert.ReferenceIdeal.main_arg0)
      = m ((c : Thread Cert.KernelIdeal.nD Cert.KernelIdeal.τ).loc Cert.KernelIdeal.main_arg0)
    ∧ m' ((c : Thread Cert.ReferenceIdeal.nD Cert.ReferenceIdeal.τ).loc Cert.ReferenceIdeal.main_arg1)
      = m ((c : Thread Cert.KernelIdeal.nD Cert.KernelIdeal.τ).loc Cert.KernelIdeal.main_arg1)

/-- The gradients are within range. -/
def InRange (c : Dev Cert.KernelIdeal.nD) : Prop :=
  ∀ i, Range.mag (Run.argG m c i) ≤ (Range.top16 : EReal) ∨ Range.mag (Run.argG m c i) = ⊤

variable {m m'} {c : Dev Cert.KernelIdeal.nD}

theorem grads_eq (hs : Same m m' c) (r : Fin 10240) (q : Fin 8192) :
    Ref.grads m' c (ix2 r q) = ent m c r q := by
  rw [Ref.grads_apply, hs.1, hs.2]
  rfl

theorem row_eq (hs : Same m m' c) (r : Fin 10240) (n : Fin 64) :
    (fun k : Fin 128 => Ref.grads m' c (ix2 r ⟨n.val * 128 + k.val, by omega⟩)) = rowG m c r n :=
  funext fun k => grads_eq hs r (at128 n k)

theorem col_eq (hs : Same m m' c) (b : Fin 80) (q : Fin 8192) :
    (fun k : Fin 128 => Ref.grads m' c (ix2 ⟨b.val * 128 + k.val, by omega⟩ q)) = colG m c b q :=
  funext fun k => grads_eq hs (row128 b k) q

theorem small_row (hr : InRange m c) (r : Fin 10240) (n : Fin 64) : Pow.Small (Spec.ratio (rowG m c r n)) :=
  Range.ratio_small _ fun _ => Range.entry_ok _ _ (hr _)

theorem small_col (hr : InRange m c) (b : Fin 80) (q : Fin 8192) : Pow.Small (Spec.ratio (colG m c b q)) :=
  Range.ratio_small _ fun _ => Range.entry_ok _ _ (hr _)

/-- The bias gradient. -/
theorem bias (hs : Same m m' c) :
    Cert.ReferenceIdeal.Gen.V m' c Cert.ReferenceIdeal.main_v34 = (Run.dats m 0 c).arrAt 2 Cert.KernelIdeal.cfg0.N := by
  rw [Ref.read_total]
  funext i
  obtain ⟨a, q, rfl⟩ : ∃ (a : Fin 1) (q : Fin 8192), i = ix2 a q := ⟨i 0, i 1, by funext k; match k with | ⟨0, _⟩ => rfl | ⟨1, _⟩ => rfl⟩
  obtain rfl : a = 0 := Subsingleton.elim _ _
  refine (Ref.total_apply _ q).trans (Eq.trans ?_ (Run.val2 m c q).symm)
  exact Finset.sum_congr rfl fun b _ => Finset.sum_congr rfl fun k _ => grads_eq hs (row128 b k) q

/-- The row codes. -/
theorem rowCodes (hs : Same m m' c) (hr : InRange m c) :
    (Cert.ReferenceIdeal.Gen.dats m' 0 c).arrAt 2 Cert.ReferenceIdeal.cfg0.N = (Run.dats m 0 c).arrAt 3 Cert.KernelIdeal.cfg0.N := by
  funext i
  obtain ⟨r, q, rfl⟩ : ∃ (r : Fin 10240) (q : Fin 8192), i = ix2 r q := ⟨i 0, i 1, by funext k; match k with | ⟨0, _⟩ => rfl | ⟨1, _⟩ => rfl⟩
  obtain ⟨n, k, rfl⟩ := Run.exists_col q
  refine (Ref.final2 m' c _).trans ((Ref.rows_apply _ r n k).trans (Eq.trans ?_ (Run.val3 m c r n k).symm))
  rw [row_eq hs, ((Pow.both _ (small_row hr r n)).2)]
  exact congrArg (fun e => Spec.clip (e * _)) (grads_eq hs r (at128 n k))

/-- The row scales. -/
theorem rowScales (hs : Same m m' c) (hr : InRange m c) :
    Cert.ReferenceIdeal.Gen.V m' c Cert.ReferenceIdeal.main_v56 = (Run.dats m 0 c).arrAt 4 Cert.KernelIdeal.cfg0.N := by
  rw [Ref.read_rowScale]
  funext i
  obtain ⟨r, n, rfl⟩ : ∃ (r : Fin 10240) (n : Fin 64), i = ix2 r n := ⟨i 0, i 1, by funext k; match k with | ⟨0, _⟩ => rfl | ⟨1, _⟩ => rfl⟩
  refine (Ref.rowScale_apply _ r n).trans (Eq.trans ?_ (Run.val4 m c r n).symm)
  rw [row_eq hs, ((Pow.both _ (small_row hr r n)).1)]

/-- The column codes. -/
theorem colCodes (hs : Same m m' c) (hr : InRange m c) :
    (Cert.ReferenceIdeal.Gen.dats m' 0 c).arrAt 3 Cert.ReferenceIdeal.cfg0.N = (Run.dats m 0 c).arrAt 5 Cert.KernelIdeal.cfg0.N := by
  funext i
  obtain ⟨q, r, rfl⟩ : ∃ (q : Fin 8192) (r : Fin 10240), i = ix2 q r := ⟨i 0, i 1, by funext k; match k with | ⟨0, _⟩ => rfl | ⟨1, _⟩ => rfl⟩
  obtain ⟨b, k, rfl⟩ := Run.exists_row r
  refine (Ref.final3 m' c _).trans ((Ref.turnRows (η := .f32) _ q _).trans ((Ref.cols_apply _ b k q).trans
    (Eq.trans ?_ (Run.val5 m c b k q).symm)))
  rw [col_eq hs, ((Pow.both _ (small_col hr b q)).2)]
  exact congrArg (fun e => Spec.clip (e * _)) (grads_eq hs (row128 b k) q)

/-- The column scales. -/
theorem colScales (hs : Same m m' c) (hr : InRange m c) :
    Cert.ReferenceIdeal.Gen.V m' c Cert.ReferenceIdeal.main_v99 = (Run.dats m 0 c).arrAt 6 Cert.KernelIdeal.cfg0.N := by
  rw [Ref.read_colScale]
  funext i
  obtain ⟨q, b, rfl⟩ : ∃ (q : Fin 8192) (b : Fin 80), i = ix2 q b := ⟨i 0, i 1, by funext k; match k with | ⟨0, _⟩ => rfl | ⟨1, _⟩ => rfl⟩
  refine (Ref.turnScales (η := .f32) _ q b).trans ((Ref.colScale_apply _ b q).trans (Eq.trans ?_ (Run.val6 m c b q).symm))
  rw [col_eq hs, ((Pow.both _ (small_col hr b q)).1)]

end Cert.Proof.Match
-- ==== Proof.Pre.lean ====
/- What the precondition says of each gradient. -/
module

public import Idealize.ShloMosaic.Lib.ReduceAll
public import proofs.«01_k».proof.Proof.Range
public import proofs.«01_k».proof.Proof.Gen.Pre_grad_in_range

@[expose] public section

noncomputable section

namespace Cert.Proof.Pre

open Idealize.ShloMosaic Cert.Pre_grad_in_range

instance : Subsingleton S_.Idx := ⟨fun a b => funext fun i => i.elim0⟩

/-- Every gradient is within bfloat16's range, or infinite. -/
theorem in_range (x g : FVec Ideal S10240x8192 .bf16)
    (h : (fn (F := Ideal) x g) = fun _ => 1#1) (i : S10240x8192.Idx) :
    Range.mag (g i) ≤ (Range.top16 : EReal) ∨ Range.mag (g i) = ⊤ := by
  have h1 := Host.reduce_andi_all _ _ _ _ _ (congrFun h (Shape.Idx.first Gen.h_S_)) i
  have h2 : BitVec.ofBool (decide (Range.mag (g i) ≤ Ideal.ofBits .f32 0x7F7F0000#32))
      ||| BitVec.ofBool (decide (Range.mag (g i) = Ideal.ofBits .f32 0x7F800000#32)) = 1#1 := h1
  have h3 : ∀ a b : Bool, BitVec.ofBool a ||| BitVec.ofBool b = 1#1 → a = true ∨ b = true := by decide
  rw [← Range.top16_eq, ← Pow.high_eq]
  rcases h3 _ _ h2 with h4 | h4
  · exact .inl (of_decide_eq_true h4)
  · exact .inr (of_decide_eq_true h4)

end Cert.Proof.Pre
-- ==== Proof.lean ====
module

public import Idealize.ShloMosaic.Adequacy
public import Idealize.ShloMosaic.Init
public import proofs.«01_k».proof.Defs
public import proofs.«01_k».proof.Proof.Gen.Kernel
public import proofs.«01_k».proof.Proof.Gen.Kernel.Frame
public import proofs.«01_k».proof.Proof.Gen.Kernel.Launch
public import proofs.«01_k».proof.Proof.Gen.Kernel.Loops
public import proofs.«01_k».proof.Proof.Gen.Kernel.Points
public import proofs.«01_k».proof.Proof.Gen.Kernel.Skeleton
public import proofs.«01_k».proof.Proof.Gen.KernelIdeal
public import proofs.«01_k».proof.Proof.Gen.KernelIdeal.Frame
public import proofs.«01_k».proof.Proof.Gen.KernelIdeal.Launch
public import proofs.«01_k».proof.Proof.Gen.KernelIdeal.Loops
public import proofs.«01_k».proof.Proof.Gen.KernelIdeal.Points
public import proofs.«01_k».proof.Proof.Gen.KernelIdeal.Skeleton
public import proofs.«01_k».proof.Proof.Gen.Pre_grad_in_range
public import proofs.«01_k».proof.Proof.Gen.ReferenceIdeal
public import proofs.«01_k».proof.Proof.Gen.ReferenceIdeal.Frame
public import proofs.«01_k».proof.Proof.Gen.ReferenceIdeal.Launch
public import proofs.«01_k».proof.Proof.Gen.ReferenceIdeal.Points
public import proofs.«01_k».proof.Proof.Gen.ReferenceIdeal.Skeleton
public import proofs.«01_k».proof.Proof.Gen.ReferenceIdeal.Value
public import proofs.«01_k».proof.Proof.KernelFrame
public import proofs.«01_k».proof.Proof.Match
public import proofs.«01_k».proof.Proof.Pre

@[expose] public section

noncomputable section

namespace Cert.Proof

open Idealize.ShloMosaic Idealize.SL.Sem

theorem quiescent_Kernel : Cert.quiescent_Kernel (hKernel := Cert.Kernel.Gen.facts) :=
  fun m g _ => Cert.Proof.Kernel.frame m g

theorem quiescent_KernelIdeal : Cert.quiescent_KernelIdeal (hKernelIdeal := Cert.KernelIdeal.Gen.facts) :=
  fun m g _ => Cert.Proof.Run.frame m g

theorem quiescent_ReferenceIdeal : Cert.quiescent_ReferenceIdeal (hReferenceIdeal := Cert.ReferenceIdeal.Gen.facts) :=
  fun m g _ => Cert.ReferenceIdeal.Gen.frame m g

/-- Every constant that the idealization names stands for its real number. -/
theorem preserves : Cert.preserves_Kernel_KernelIdeal :=
  ⟨IdealRules.named_const.statement Cert.KernelIdeal.κ "two_k_c" .f32 0x3D922279#32 _ rfl,
   IdealRules.named_const.statement Cert.KernelIdeal.κ "two_k" .f32 0x3FCC422A#32 _ rfl,
   IdealRules.named_const.statement Cert.KernelIdeal.κ "six_k_c" .f32 0x3E5B33B6#32 _ rfl⟩

/-- **The kernel computes the reference's five results**, over the extended reals, for gradients within range. -/
theorem algebraic : Cert.algebraic_KernelIdeal_ReferenceIdeal_pre_grad_in_range
    (hKernelIdeal := Cert.KernelIdeal.Gen.facts) (hReferenceIdeal := Cert.ReferenceIdeal.Gen.facts)
    (hPre_grad_in_range := Cert.Pre_grad_in_range.Gen.facts) := by
  intro m g m' g' hpre hargs
  have hr : ∀ c, Match.InRange m c := fun c i => Pre.in_range _ _ (hpre c) i
  have hs : ∀ c, Match.Same m m' c := hargs
  refine ⟨fun c => (Run.dats m 0 c).arrAt 2 Cert.KernelIdeal.cfg0.N, fun c => (Run.dats m 0 c).arrAt 3 Cert.KernelIdeal.cfg0.N,
    fun c => (Run.dats m 0 c).arrAt 4 Cert.KernelIdeal.cfg0.N, fun c => (Run.dats m 0 c).arrAt 5 Cert.KernelIdeal.cfg0.N,
    fun c => (Run.dats m 0 c).arrAt 6 Cert.KernelIdeal.cfg0.N, Run.run m g, ?_⟩
  exact (θ_run _ _ _).mono (fun r h c => ⟨(h c).1.trans (Match.bias (hs c)),
    (h c).2.1.trans (Match.rowCodes (hs c) (hr c)), (h c).2.2.1.trans (Match.rowScales (hs c) (hr c)),
    (h c).2.2.2.1.trans (Match.colCodes (hs c) (hr c)), (h c).2.2.2.2.1.trans (Match.colScales (hs c) (hr c)),
    (h c).2.2.2.2.2.1, (h c).2.2.2.2.2.2⟩) (Ref.run m' g')

theorem claim : Cert.Claim :=
  ⟨Cert.Kernel.Gen.facts, Cert.KernelIdeal.Gen.facts, Cert.ReferenceIdeal.Gen.facts, Cert.Pre_grad_in_range.Gen.facts,
    quiescent_Kernel, quiescent_KernelIdeal, fun m g _ => quiescent_KernelIdeal m g trivial,
    quiescent_ReferenceIdeal, fun m g _ => quiescent_ReferenceIdeal m g trivial, preserves, algebraic⟩

end Cert.Proof
